-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19_0) = v0 c
          ∧ r.2.mem ((c.tc : Thread Cert.ReferenceIdeal.nD Cert.ReferenceIdeal.τ).loc Cert.ReferenceIdeal.main_v19_1) = v1 c
          ∧ r.2.mem ((c.tc : Thread Cert.ReferenceIdeal.nD Cert.ReferenceIdeal.τ).loc Cert.ReferenceIdeal.main_v19_2) = v2 c
          ∧ r.2.mem ((c.tc : Thread Cert.ReferenceIdeal.nD Cert.ReferenceIdeal.τ).loc Cert.ReferenceIdeal.main_v19_3) = v3 c
          ∧ r.2.mem ((c.tc : Thread Cert.ReferenceIdeal.nD Cert.ReferenceIdeal.τ).loc Cert.ReferenceIdeal.main_v19_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S2x128x8192 : Shape := ⟨3, ![2, 128, 8192]⟩
abbrev S8192x2560 : Shape := ⟨2, ![8192, 2560]⟩
abbrev S5120 : Shape := ⟨1, ![5120]⟩
abbrev S2x128x5120 : Shape := ⟨3, ![2, 128, 5120]⟩
abbrev S_ : Shape := ⟨0, ![]⟩

class Facts : Prop where
  bitsLt_bf16_f32 : FTy.bits .bf16 < FTy.bits .f32
  bcast_S_S5120 : S_.BroadcastsInDim S5120 (![] : Fin 0 → Fin S5120.rank)

variable [Facts]

def fn {F : FTy → Type} [FloatOps F] (main_arg0 : FVec F S2x128x8192 .bf16) (main_arg1 : IVec S8192x2560 8) (main_arg2 : FVec F S5120 .f32) (main_arg3 : FVec F S2x128x5120 .bf16) (main_arg4 : FVec F S5120 .bf16) : IVec S5120 1 :=
  let main_v0 : FVec F S5120 .f32 := (extf .f32 · bitsLt_bf16_f32) main_arg4
  let main_v1 : FVec F S5120 .f32 := Host.absf main_v0
  let main_cst : FVec F S_ .f32 := constant S_ .f32 0x7F7F0000#32
  let main_v2 : FVec F S5120 .f32 := broadcastInDim S5120 ![] bcast_S_S5120 main_cst
  let main_v3 : IVec S5120 1 := cmpf .ole main_v1 main_v2
  main_v3
-- ==== Kernel.lean ====
abbrev S2x128x8192 : Shape := ⟨3, ![2, 128, 8192]⟩
abbrev S8192x2560 : Shape := ⟨2, ![8192, 2560]⟩
abbrev S5120 : Shape := ⟨1, ![5120]⟩
abbrev S2x128x5120 : Shape := ⟨3, ![2, 128, 5120]⟩
abbrev S256x8192 : Shape := ⟨2, ![256, 8192]⟩
abbrev S1x5120 : Shape := ⟨2, ![1, 5120]⟩
abbrev S256x5120 : Shape := ⟨2, ![256, 5120]⟩
abbrev S256x1 : Shape := ⟨2, ![256, 1]⟩
abbrev S8192x256 : Shape := ⟨2, ![8192, 256]⟩
abbrev S1x512 : Shape := ⟨2, ![1, 512]⟩
abbrev S256x512 : Shape := ⟨2, ![256, 512]⟩
abbrev S10x256x512 : Shape := ⟨3, ![10, 256, 512]⟩
abbrev S256x128 : Shape := ⟨2, ![256, 128]⟩
abbrev S32x8192 : Shape := ⟨2, ![32, 8192]⟩
abbrev S32 : Shape := ⟨1, ![32]⟩
abbrev S32x1 : Shape := ⟨2, ![32, 1]⟩
abbrev S2048x256 : Shape := ⟨2, ![2048, 256]⟩
abbrev S256x256 : Shape := ⟨2, ![256, 256]⟩
abbrev S256x128x1 : Shape := ⟨3, ![256, 128, 1]⟩
abbrev S1x256 : Shape := ⟨2, ![1, 256]⟩
abbrev S1x256x256 : Shape := ⟨3, ![1, 256, 256]⟩
abbrev S256 : Shape := ⟨1, ![256]⟩
abbrev S1x256x512 : Shape := ⟨3, ![1, 256, 512]⟩

abbrev nBuf : Space → Nat
  | .hbm => 14
  | .vmem => 17
  | .smem => 0
  | _ => 0

abbrev bufTy : (tb : Table) → Fin (tcTables nBuf tb) → BufTy
  | .hbm, ⟨0, _⟩ => ⟨S2x128x8192, .bf16⟩
  | .hbm, ⟨1, _⟩ => ⟨S8192x2560, .i8⟩
  | .hbm, ⟨2, _⟩ => ⟨S5120, .f32⟩
  | .hbm, ⟨3, _⟩ => ⟨S2x128x5120, .bf16⟩
  | .hbm, ⟨4, _⟩ => ⟨S5120, .bf16⟩
  | .hbm, ⟨5, _⟩ => ⟨S256x8192, .bf16⟩
  | .hbm, ⟨6, _⟩ => ⟨S1x5120, .f32⟩
  | .hbm, ⟨7, _⟩ => ⟨S256x5120, .bf16⟩
  | .hbm, ⟨8, _⟩ => ⟨S1x5120, .bf16⟩
  | .hbm, ⟨9, _⟩ => ⟨S256x5120, .bf16⟩
  | .hbm, ⟨10, _⟩ => ⟨S256x8192, .i8⟩
  | .hbm, ⟨11, _⟩ => ⟨S256x1, .f32⟩
  | .hbm, ⟨12, _⟩ => ⟨S256x5120, .fp8e4m3⟩
  | .hbm, ⟨13, _⟩ => ⟨S256x1, .f32⟩
  | .local _ .vmem, ⟨0, _⟩ => ⟨S256x8192, .bf16⟩
  | .local _ .vmem, ⟨1, _⟩ => ⟨S8192x256, .i8⟩
  | .local _ .vmem, ⟨2, _⟩ => ⟨S8192x256, .i8⟩
  | .local _ .vmem, ⟨3, _⟩ => ⟨S1x512, .f32⟩
  | .local _ .vmem, ⟨4, _⟩ => ⟨S1x512, .f32⟩
  | .local _ .vmem, ⟨5, _⟩ => ⟨S256x512, .bf16⟩
  | .local _ .vmem, ⟨6, _⟩ => ⟨S256x512, .bf16⟩
  | .local _ .vmem, ⟨7, _⟩ => ⟨S1x5120, .bf16⟩
  | .local _ .vmem, ⟨8, _⟩ => ⟨S256x512, .bf16⟩
  | .local _ .vmem, ⟨9, _⟩ => ⟨S256x512, .bf16⟩
  | .local _ .vmem, ⟨10, _⟩ => ⟨S256x8192, .i8⟩
  | .local _ .vmem, ⟨11, _⟩ => ⟨S256x1, .f32⟩
  | .local _ .vmem, ⟨12, _⟩ => ⟨S256x5120, .fp8e4m3⟩
  | .local _ .vmem, ⟨13, _⟩ => ⟨S256x1, .f32⟩
  | .local _ .vmem, ⟨14, _⟩ => ⟨S256x8192, .bf16⟩
  | .local _ .vmem, ⟨15, _⟩ => ⟨S10x256x512, .bf16⟩
  | .local _ .vmem, ⟨16, _⟩ => ⟨S256x128, .f32⟩
  | _, _ => ⟨S2x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![10], ![false]⟩

def k0_off1 (i : grid0.Coords) : Fin 3 → Nat :=
  let arg0 : BitVec 32 := BitVec.ofNat 32 (i 0).val
  let v62 : Index := Scalar.indexCast arg0
  let c0_18 : Index := 0#32
  let c0_19 : Index := 0#32
  ![v62.toNat, 0, 0]
def k0_off2 (i : grid0.Coords) : Fin 3 → Nat :=
  let arg0 : BitVec 32 := BitVec.ofNat 32 (i 0).val
  let v118 : Index := Scalar.indexCast arg0
  let c0_35 : Index := 0#32
  let c256_36 : Index := 256#32
  ![v118.toNat, 0, 256]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c9_i32 : BitVec 32 := 9#32
  let v132 : BitVec 1 := Scalar.cmpi .eq arg0 c9_i32
  let v133 : BitVec 32 := Scalar.extui v132
  let c0_i32_41 : BitVec 32 := 0#32
  let v134 : BitVec 1 := Scalar.cmpi .ne v133 c0_i32_41
  v134

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x8192 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S2x128x8192 : Shape := ⟨3, ![2, 128, 8192]⟩
abbrev S8192x2560 : Shape := ⟨2, ![8192, 2560]⟩
abbrev S5120 : Shape := ⟨1, ![5120]⟩
abbrev S2x128x5120 : Shape := ⟨3, ![2, 128, 5120]⟩
abbrev S256x8192 : Shape := ⟨2, ![256, 8192]⟩
abbrev S_ : Shape := ⟨0, ![]⟩
abbrev S8192x2560x1 : Shape := ⟨3, ![8192, 2560, 1]⟩
abbrev S8192x2560x2 : Shape := ⟨3, ![8192, 2560, 2]⟩
abbrev S8192x5120 : Shape := ⟨2, ![8192, 5120]⟩
abbrev S1x5120 : Shape := ⟨2, ![1, 5120]⟩
abbrev S256x5120 : Shape := ⟨2, ![256, 5120]⟩
abbrev S256x1 : Shape := ⟨2, ![256, 1]⟩
abbrev S256 : Shape := ⟨1, ![256]⟩

abbrev nBuf : Space → Nat
  | .hbm => 33
  | .vmem => 10
  | .smem => 0
  | _ => 0

abbrev bufTy : (tb : Table) → Fin (tcTables nBuf tb) → BufTy
  | .hbm, ⟨0, _⟩ => ⟨S2x128x8192, .bf16⟩
  | .hbm, ⟨1, _⟩ => ⟨S8192x2560, .i8⟩
  | .hbm, ⟨2, _⟩ => ⟨S5120, .f32⟩
  | .hbm, ⟨3, _⟩ => ⟨S2x128x5120, .bf16⟩
  | .hbm, ⟨4, _⟩ => ⟨S5120, .bf16⟩
  | .hbm, ⟨5, _⟩ => ⟨S256x8192, .bf16⟩
  | .hbm, ⟨6, _⟩ => ⟨S8192x2560, .i32⟩
  | .hbm, ⟨7, _⟩ => ⟨S_, .i32⟩
  | .hbm, ⟨8, _⟩ => ⟨S8192x2560, .i32⟩
  | .hbm, ⟨9, _⟩ => ⟨S8192x2560, .i32⟩
  | .hbm, ⟨10, _⟩ => ⟨S_, .i32⟩
  | .hbm, ⟨11, _⟩ => ⟨S8192x2560, .i32⟩
  | .hbm, ⟨12, _⟩ => ⟨S8192x2560, .i32⟩
  | .hbm, ⟨13, _⟩ => ⟨S8192x2560x1, .i32⟩
  | .hbm, ⟨14, _⟩ => ⟨S8192x2560x1, .i32⟩
  | .hbm, ⟨15, _⟩ => ⟨S8192x2560x2, .i32⟩
  | .hbm, ⟨16, _⟩ => ⟨S8192x5120, .i32⟩
  | .hbm, ⟨17, _⟩ => ⟨S_, .i32⟩
  | .hbm, ⟨18, _⟩ => ⟨S8192x5120, .i32⟩
  | .hbm, ⟨19, _⟩ => ⟨S8192x5120, .i1⟩
  | .hbm, ⟨20, _⟩ => ⟨S_, .i32⟩
  | .hbm, ⟨21, _⟩ => ⟨S8192x5120, .i32⟩
  | .hbm, ⟨22, _⟩ => ⟨S8192x5120, .i32⟩
  | .hbm, ⟨23, _⟩ => ⟨S8192x5120, .i32⟩
  | .hbm, ⟨24, _⟩ => ⟨S8192x5120, .bf16⟩
  | .hbm, ⟨25, _⟩ => ⟨S1x5120, .f32⟩
  | .hbm, ⟨26, _⟩ => ⟨S256x5120, .bf16⟩
  | .hbm, ⟨27, _⟩ => ⟨S1x5120, .bf16⟩
  | .hbm, ⟨28, _⟩ => ⟨S256x5120, .bf16⟩
  | .hbm, ⟨29, _⟩ => ⟨S256x8192, .i8⟩
  | .hbm, ⟨30, _⟩ => ⟨S256x1, .f32⟩
  | .hbm, ⟨31, _⟩ => ⟨S256x5120, .fp8e4m3⟩
  | .hbm, ⟨32, _⟩ => ⟨S256x1, .f32⟩
  | .local _ .vmem, ⟨0, _⟩ => ⟨S256x8192, .bf16⟩
  | .local _ .vmem, ⟨1, _⟩ => ⟨S8192x5120, .bf16⟩
  | .local _ .vmem, ⟨2, _⟩ => ⟨S1x5120, .f32⟩
  | .local _ .vmem, ⟨3, _⟩ => ⟨S256x5120, .bf16⟩
  | .local _ .vmem, ⟨4, _⟩ => ⟨S1x5120, .bf16⟩
  | .local _ .vmem, ⟨5, _⟩ => ⟨S256x5120, .bf16⟩
  | .local _ .vmem, ⟨6, _⟩ => ⟨S256x8192, .i8⟩
  | .local _ .vmem, ⟨7, _⟩ => ⟨S256x1, .f32⟩
  | .local _ .vmem, ⟨8, _⟩ => ⟨S256x5120, .fp8e4m3⟩
  | .local _ .vmem, ⟨9, _⟩ => ⟨S256x1, .f32⟩
  | _, _ => ⟨S2x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x8192 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KRuns.lean ====
/- What the runs of the kernel body share: its two branch conditions in closed form over the grid points, where its
   windows are idle, and the names of its staging and scratch memrefs. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_1, k0_cond2, e0]
    word_cmp
   : ∀ t : Fin grid0.N, cond0_1 (grid0.coords t) ↔ t.val % 10 = 9)

/-! ## Where the windows are idle -/

/-- The inputs and the residual output are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
/-- Output 6 is live exactly at the first point. -/
theorem liveAt0_6 : ∀ t : Fin cfg0.N, cond0_0 (grid0.coords t) → cfg0.idle 6 (grid0.coords t) = false := by decide +kernel
theorem idleAt0_6 : ∀ t : Fin cfg0.N, ¬cond0_0 (grid0.coords t) → cfg0.idle 6 (grid0.coords t) = true := by decide +kernel
/-- It is written back at the last point only. -/
theorem noFlush0_6 : ∀ t : Fin cfg0.N, ¬cond0_1 (grid0.coords t) → (cfg0.win 6).flush t = false := by decide +kernel
theorem doFlush0_6 : ∀ t : Fin cfg0.N, cond0_1 (grid0.coords t) → (cfg0.win 6).flush t = true := by decide +kernel
/-- Output 7 is live exactly at the first point. -/
theorem liveAt0_7 : ∀ t : Fin cfg0.N, cond0_0 (grid0.coords t) → cfg0.idle 7 (grid0.coords t) = false := by decide +kernel
theorem idleAt0_7 : ∀ t : Fin cfg0.N, ¬cond0_0 (grid0.coords t) → cfg0.idle 7 (grid0.coords t) = true := by decide +kernel
/-- It is written back at the last point only. -/
theorem noFlush0_7 : ∀ t : Fin cfg0.N, ¬cond0_1 (grid0.coords t) → (cfg0.win 7).flush t = false := by decide +kernel
theorem doFlush0_7 : ∀ t : Fin cfg0.N, cond0_1 (grid0.coords t) → (cfg0.win 7).flush t = true := by decide +kernel
/-- Output 8 is live exactly at the last point. -/
theorem liveAt0_8 : ∀ t : Fin cfg0.N, cond0_1 (grid0.coords t) → cfg0.idle 8 (grid0.coords t) = false := by decide +kernel
theorem idleAt0_8 : ∀ t : Fin cfg0.N, ¬cond0_1 (grid0.coords t) → cfg0.idle 8 (grid0.coords t) = true := by decide +kernel
/-- It is written back at the last point only. -/
theorem noFlush0_8 : ∀ t : Fin cfg0.N, ¬cond0_1 (grid0.coords t) → (cfg0.win 8).flush t = false := by decide +kernel
theorem doFlush0_8 : ∀ t : Fin cfg0.N, cond0_1 (grid0.coords t) → (cfg0.win 8).flush t = true := by decide +kernel
/-- Output 9 is live exactly at the last point. -/
theorem liveAt0_9 : ∀ t : Fin cfg0.N, cond0_1 (grid0.coords t) → cfg0.idle 9 (grid0.coords t) = false := by decide +kernel
theorem idleAt0_9 : ∀ t : Fin cfg0.N, ¬cond0_1 (grid0.coords t) → cfg0.idle 9 (grid0.coords t) = true := by decide +kernel
/-- It is written back at the last point only. -/
theorem noFlush0_9 : ∀ t : Fin cfg0.N, ¬cond0_1 (grid0.coords t) → (cfg0.win 9).flush t = false := by decide +kernel
theorem doFlush0_9 : ∀ t : Fin cfg0.N, cond0_1 (grid0.coords t) → (cfg0.win 9).flush t = true := by decide +kernel

/-! ## The kernel body on any staging memrefs: a subtype the run finds -/

/-- One staging buffer of output window 5, through which its contents are stated (`View.read_writes_of_cover`: the
    choice does not matter). -/
abbrev VO0_5 : View sig .tc .vmem S256x512 .bf16 := (Memref.whole cc0_stg5_0 : Memref sig .tc .vmem S256x512 .bf16).view
/-- One staging buffer of output window 6, through which its contents are stated (`View.read_writes_of_cover`: the
    choice does not matter). -/
abbrev VO0_6 : View sig .tc .vmem S256x8192 .i8 := (Memref.whole cc0_stg6_0 : Memref sig .tc .vmem S256x8192 .i8).view
/-- One staging buffer of output window 7, through which its contents are stated (`View.read_writes_of_cover`: the
    choice does not matter). -/
abbrev VO0_7 : View sig .tc .vmem S256x1 .f32 := (Memref.whole cc0_stg7_0 : Memref sig .tc .vmem S256x1 .f32).view
/-- One staging buffer of output window 8, through which its contents are stated (`View.read_writes_of_cover`: the
    choice does not matter). -/
abbrev VO0_8 : View sig .tc .vmem S256x5120 .fp8e4m3 := (Memref.whole cc0_stg8_0 : Memref sig .tc .vmem S256x5120 .fp8e4m3).view
/-- One staging buffer of output window 9, through which its contents are stated (`View.read_writes_of_cover`: the
    choice does not matter). -/
abbrev VO0_9 : View sig .tc .vmem S256x1 .f32 := (Memref.whole cc0_stg9_0 : Memref sig .tc .vmem S256x1 .f32).view
/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5120 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8192 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x5120 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S256x8192 .bf16 := Memref.whole cc0_scratch0
abbrev scM0_1 : Memref sig .tc .vmem S10x256x512 .bf16 := Memref.whole cc0_scratch1
abbrev scM0_2 : Memref sig .tc .vmem S256x128 .f32 := Memref.whole cc0_scratch2
/-- The scratch `arg11` the kernel carries between points, as a view: what it holds is stated through it. -/
abbrev VS0_0 : View sig .tc .vmem S256x8192 .bf16 := scM0_0.view
/-- The scratch `arg12` the kernel carries between points, as a view: what it holds is stated through it. -/
abbrev VS0_1 : View sig .tc .vmem S10x256x512 .bf16 := scM0_1.view
/-- The scratch `arg13` the kernel carries between points, as a view: what it holds is stated through it. -/
abbrev VS0_2 : View sig .tc .vmem S256x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Own

end
-- ==== Proof.KVals.lean ====
/- What the kernel body computes at each point, as functions of the blocks it reads. -/
module

public import proofs.«01_k».proof.Proof.KRuns
public import Idealize.ShloMosaic.Lib.VecWindow
public import Idealize.ShloMosaic.Lib.Pointwise

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Row bands of 32 and column tiles of a block -/

/-- Band `k` of 32 rows of the activations. -/
def xRows (x : Vec F S256x8192 .bf16) (k : ℕ) : Vec F S32x8192 .bf16 :=
  fun z => x (ix2 (n0 := 256) (n1 := 8192) ⟨(32 * k + (z 0).val) % 256, Nat.mod_lt _ (by decide)⟩ (z 1))

/-- Columns `256 k`, …, `256 k + 255` of the weight scales. -/
def wsCols (ws : Vec F S1x512 .f32) (k : ℕ) : Vec F S1x256 .f32 :=
  fun z => ws (ix2 (n0 := 1) (n1 := 512) (z 0) ⟨(256 * k + (z 1).val) % 512, Nat.mod_lt _ (by decide)⟩)

/-- Columns `256 k`, …, `256 k + 255` of the residual. -/
def resCols (res : Vec F S256x512 .bf16) (k : ℕ) : Vec F S256x256 .bf16 :=
  fun z => res (ix2 (n0 := 256) (n1 := 512) (z 0) ⟨(256 * k + (z 1).val) % 512, Nat.mod_lt _ (by decide)⟩)

/-- Tile `k` of the kept residual sums. -/
def rTile (r : Vec F S10x256x512 .bf16) (k : ℕ) : Vec F S1x256x512 .bf16 :=
  fun z => r (ix3 (n0 := 10) (n1 := 256) (n2 := 512) ⟨k % 10, Nat.mod_lt _ (by decide)⟩ (z 1) (z 2))

/-- Columns `512 k`, …, `512 k + 511` of the norm's weights. -/
def gTile (g : Vec F S1x5120 .bf16) (k : ℕ) : Vec F S1x512 .bf16 :=
  fun z => g (ix2 (n0 := 1) (n1 := 5120) (z 0) ⟨(512 * k + (z 1).val) % 5120, Nat.mod_lt _ (by decide)⟩)

/-- A band's row, placed in the whole block. -/
abbrev inBand {W : ℕ} (y : (⟨2, ![256, W]⟩ : Shape).Idx) : (⟨2, ![32, W]⟩ : Shape).Idx :=
  ix2 (n0 := 32) (n1 := W) ⟨(y 0).val % 32, Nat.mod_lt _ (by decide)⟩ (y 1)

/-! ## What the first point computes from the activations -/

/-- The activations' scales, one for each row. -/
def xsOf (x : Vec F S256x8192 .bf16) : Vec F S256x1 .f32 := fun y => k0_pay5 (xRows x ((y 0).val / 32)) (inBand (W := 1) y)
/-- The activations' codes. -/
def xcOf (x : Vec F S256x8192 .bf16) : Vec F S256x8192 .i8 := fun y => k0_pay7 (xRows x ((y 0).val / 32)) (inBand (W := 8192) y)
/-- The activations' codes as floats. -/
def xqOf (x : Vec F S256x8192 .bf16) : Vec F S256x8192 .bf16 := fun y => k0_pay8 (xRows x ((y 0).val / 32)) (inBand (W := 8192) y)

/-! ## What each point computes -/

section Tile
variable (xs : Vec F S256x1 .f32) (xq : Vec F S256x8192 .bf16) (w : Vec F S8192x256 .i8) (ws : Vec F S1x512 .f32)
  (res : Vec F S256x512 .bf16) (ss : Vec F S256x128 .f32)

/-- The lane numbers. -/
abbrev lanes : IVec S256x128 32 := iota .tc S256x128 32 [1] iota_S256x128_d1_w32

/-- The first 256 columns of a point's tile of the residual sum. -/
def tLo : FVec F S256x256 .bf16 :=
  k0_pay90 (k0_pay83 xs) (k0_pay84 w xq) (k0_pay85 w xq) k0_pay86 (k0_pay88 w xq) k0_pay89 (wsCols ws 0) (resCols res 0)
/-- The last 256 columns. -/
def tHi : FVec F S256x256 .bf16 :=
  k0_pay97 (k0_pay83 xs) (k0_pay93 (k0_pay81 w xq)) (k0_pay94 (k0_pay82 w xq)) lanes k0_pay95 k0_pay96 (wsCols ws 1) (resCols res 1)
/-- A point's tile of the residual sum. -/
def roOf : Vec F S256x512 .bf16 := fun y =>
  if (y 1).val < 256 then tLo xs xq w ws res (ix2 (n0 := 256) (n1 := 256) (y 0) ⟨(y 1).val % 256, Nat.mod_lt _ (by decide)⟩)
  else tHi xs xq w ws res (ix2 (n0 := 256) (n1 := 256) (y 0) ⟨(y 1).val % 256, Nat.mod_lt _ (by decide)⟩)
/-- The sums of squares after the first half of a tile. -/
def ssLo : FVec F S256x128 .f32 :=
  k0_pay92 (k0_pay83 xs) (k0_pay84 w xq) (k0_pay85 w xq) k0_pay86 (k0_pay88 w xq) k0_pay89 (wsCols ws 0) (resCols res 0) ss
/-- The sums of squares after a tile. -/
def ssOf : FVec F S256x128 .f32 :=
  k0_pay1 (k0_pay99 (k0_pay83 xs) (k0_pay93 (k0_pay81 w xq)) (k0_pay94 (k0_pay82 w xq)) lanes k0_pay95 k0_pay96 (wsCols ws 1) (resCols res 1))
    (ssLo xs xq w ws res ss)
    (k0_pay100 (k0_pay83 xs) (k0_pay93 (k0_pay81 w xq)) (k0_pay94 (k0_pay82 w xq)) lanes k0_pay95 k0_pay96 (wsCols ws 1) (resCols res 1))
end Tile

/-! ## What the last point computes from the kept tiles -/

section Last
variable (ss : Vec F S256x128 .f32) (r : Vec F S10x256x512 .bf16) (g : Vec F S1x5120 .bf16)

/-- The reciprocal root of the mean square. -/
def invOf : FVec F S256x1 .f32 := k0_pay46 ss
/-- The largest absolute value of the normalised row over tiles 0 to 7. -/
def am7 : FVec F S256x1 .f32 :=
  k0_pay51 (invOf ss) (k0_pay49 (invOf ss) (k0_pay47 ss (rTile r 0) (gTile g 0) (rTile r 1) (gTile g 1)) (k0_pay48 (rTile r 2)) (gTile g 2)
    (rTile r 3) (gTile g 3) (rTile r 4) (gTile g 4)) (k0_pay50 (rTile r 5)) (gTile g 5) (rTile r 6) (gTile g 6) (rTile r 7) (gTile g 7)
/-- Whether a row is all zero. -/
def isZ : IVec S256x1 1 := k0_pay54 (invOf ss) (am7 ss r g) (k0_pay52 (rTile r 8)) (gTile g 8) (rTile r 9) (gTile g 9)
/-- The scale's exponent of a row that is not. -/
def expo : IVec S256x1 32 := k0_pay55 (invOf ss) (am7 ss r g) (k0_pay52 (rTile r 8)) (gTile g 8) (rTile r 9) (gTile g 9)
/-- The scales of the normalised rows. -/
def ysOf : Vec F S256x1 .f32 := k0_pay58 (isZ ss r g) (expo ss r g) k0_pay56
/-- Tile `k` of the codes. -/
def ycTile (k : ℕ) : FVec F S256x512 .fp8e4m3 :=
  k0_pay64 (invOf ss) (k0_pay59 (isZ ss r g) (expo ss r g) k0_pay56) (rTile r k) (gTile g k)
/-- The codes of the normalised rows. -/
def ycOf : Vec F S256x5120 .fp8e4m3 := fun y =>
  ycTile ss r g ((y 1).val / 512) (ix2 (n0 := 256) (n1 := 512) (y 0) ⟨(y 1).val % 512, Nat.mod_lt _ (by decide)⟩)
end Last

/-! ## Loads of bands and tiles -/

section Loads
variable {sp : Space}

theorem read_xRows (v : View sig .tc sp S256x8192 .bf16) (f : v.ty.Contents (Elt F)) (k o : ℕ) (ho : o = 32 * k) (hk : k < 8)
    (inb : ∀ a, ![o, 0] a + S32x8192.size a ≤ S256x8192.size a) :
    v.readAt (Elt F) (Rect.unit (s := S256x8192) ![o, 0] S32x8192.size inb).toLoadRect f = xRows (v.read (Elt F) f) k := by
  subst ho
  funext z
  refine congrArg (v.read (Elt F) f) (funext fun a => Fin.ext ?_)
  have h0 : (z 0).val < 32 := (z 0).isLt
  match a with
  | ⟨0, _⟩ => show 32 * k + 1 * (z 0).val = (32 * k + (z 0).val) % 256; omega
  | ⟨1, _⟩ => show 0 + 1 * (z 1).val = (z 1).val; omega

theorem read_wsCols (v : View sig .tc sp S1x512 .f32) (f : v.ty.Contents (Elt F)) (k o : ℕ) (ho : o = 256 * k) (hk : k < 2)
    (inb : ∀ a, ![0, o] a + S1x256.size a ≤ S1x512.size a) :
    v.readAt (Elt F) (Rect.unit (s := S1x512) ![0, o] S1x256.size inb).toLoadRect f = wsCols (v.read (Elt F) f) k := by
  subst ho
  funext z
  refine congrArg (v.read (Elt F) f) (funext fun a => Fin.ext ?_)
  have h0 : (z 1).val < 256 := (z 1).isLt
  match a with
  | ⟨0, _⟩ => show 0 + 1 * (z 0).val = (z 0).val; omega
  | ⟨1, _⟩ => show 256 * k + 1 * (z 1).val = (256 * k + (z 1).val) % 512; omega

theorem read_resCols (v : View sig .tc sp S256x512 .bf16) (f : v.ty.Contents (Elt F)) (k o : ℕ) (ho : o = 256 * k) (hk : k < 2)
    (inb : ∀ a, ![0, o] a + S256x256.size a ≤ S256x512.size a) :
    v.readAt (Elt F) (Rect.unit (s := S256x512) ![0, o] S256x256.size inb).toLoadRect f = resCols (v.read (Elt F) f) k := by
  subst ho
  funext z
  refine congrArg (v.read (Elt F) f) (funext fun a => Fin.ext ?_)
  have h0 : (z 1).val < 256 := (z 1).isLt
  match a with
  | ⟨0, _⟩ => show 0 + 1 * (z 0).val = (z 0).val; omega
  | ⟨1, _⟩ => show 256 * k + 1 * (z 1).val = (256 * k + (z 1).val) % 512; omega

theorem read_rTile (v : View sig .tc sp S10x256x512 .bf16) (f : v.ty.Contents (Elt F)) (k : ℕ) (hk : k < 10)
    (inb : ∀ a, ![k, 0, 0] a + S1x256x512.size a ≤ S10x256x512.size a) :
    v.readAt (Elt F) (Rect.unit (s := S10x256x512) ![k, 0, 0] S1x256x512.size inb).toLoadRect f = rTile (v.read (Elt F) f) k := by
  funext z
  refine congrArg (v.read (Elt F) f) (funext fun a => Fin.ext ?_)
  have h0 : (z 0).val < 1 := (z 0).isLt
  match a with
  | ⟨0, _⟩ => show k + 1 * (z 0).val = k % 10; omega
  | ⟨1, _⟩ => show 0 + 1 * (z 1).val = (z 1).val; omega
  | ⟨2, _⟩ => show 0 + 1 * (z 2).val = (z 2).val; omega

theorem read_gTile (v : View sig .tc sp S1x5120 .bf16) (f : v.ty.Contents (Elt F)) (k o : ℕ) (ho : o = 512 * k) (hk : k < 10)
    (inb : ∀ a, ![0, o] a + S1x512.size a ≤ S1x5120.size a) :
    v.readAt (Elt F) (Rect.unit (s := S1x5120) ![0, o] S1x512.size inb).toLoadRect f = gTile (v.read (Elt F) f) k := by
  subst ho
  funext z
  refine congrArg (v.read (Elt F) f) (funext fun a => Fin.ext ?_)
  have h0 : (z 1).val < 512 := (z 1).isLt
  match a with
  | ⟨0, _⟩ => show 0 + 1 * (z 0).val = (z 0).val; omega
  | ⟨1, _⟩ => show 512 * k + 1 * (z 1).val = (512 * k + (z 1).val) % 5120; omega

end Loads

/-! ## Stores of bands and tiles -/

/-- A function given band by band, at a band's place in the whole block. -/
theorem at_band {α : Type} {W : ℕ} (H : ℕ → (⟨2, ![32, W]⟩ : Shape).Idx → α) (k o : ℕ) (ho : o = 32 * k)
    (inb : ∀ a, ![o, 0] a + (⟨2, ![32, W]⟩ : Shape).size a ≤ (⟨2, ![256, W]⟩ : Shape).size a) (z : (⟨2, ![32, W]⟩ : Shape).Idx) :
    (fun y : (⟨2, ![256, W]⟩ : Shape).Idx => H ((y 0).val / 32) (inBand y)) ((Rect.unit (s := ⟨2, ![256, W]⟩) ![o, 0] (⟨2, ![32, W]⟩ : Shape).size inb).emb z)
      = H k z := by
  subst ho
  have h0 : (z 0).val < 32 := (z 0).isLt
  have e0 : ((Rect.unit (s := ⟨2, ![256, W]⟩) ![32 * k, 0] (⟨2, ![32, W]⟩ : Shape).size inb).emb z 0).val = 32 * k + 1 * (z 0).val := rfl
  have e1 : ((Rect.unit (s := ⟨2, ![256, W]⟩) ![32 * k, 0] (⟨2, ![32, W]⟩ : Shape).size inb).emb z 1).val = 0 + 1 * (z 1).val := rfl
  have hk : (32 * k + 1 * (z 0).val) / 32 = k := by omega
  have hz : inBand ((Rect.unit (s := ⟨2, ![256, W]⟩) ![32 * k, 0] (⟨2, ![32, W]⟩ : Shape).size inb).emb z) = z := by
    funext a
    match a with
    | ⟨0, _⟩ => exact Fin.ext (by show (32 * k + 1 * (z 0).val) % 32 = (z 0).val; omega)
    | ⟨1, _⟩ => exact Fin.ext (by show 0 + 1 * (z 1).val = (z 1).val; omega)
  show H (((Rect.unit (s := ⟨2, ![256, W]⟩) ![32 * k, 0] (⟨2, ![32, W]⟩ : Shape).size inb).emb z 0).val / 32) _ = _
  rw [hz, e0, hk]

/-- A function given by column tiles of width `W`, at a tile's place in the whole block. -/
theorem at_tile {α : Type} {n W N : ℕ} (H : ℕ → (⟨2, ![n, W]⟩ : Shape).Idx → α) (hW : 0 < W) (k o : ℕ) (ho : o = W * k)
    (inb : ∀ a, ![0, o] a + (⟨2, ![n, W]⟩ : Shape).size a ≤ (⟨2, ![n, N]⟩ : Shape).size a) (z : (⟨2, ![n, W]⟩ : Shape).Idx) :
    (fun y : (⟨2, ![n, N]⟩ : Shape).Idx => H ((y 1).val / W) (ix2 (n0 := n) (n1 := W) (y 0) ⟨(y 1).val % W, Nat.mod_lt _ hW⟩))
        ((Rect.unit (s := ⟨2, ![n, N]⟩) ![0, o] (⟨2, ![n, W]⟩ : Shape).size inb).emb z)
      = H k z := by
  subst ho
  have h1 : (z 1).val < W := (z 1).isLt
  have e1 : ((Rect.unit (s := ⟨2, ![n, N]⟩) ![0, W * k] (⟨2, ![n, W]⟩ : Shape).size inb).emb z 1).val = W * k + 1 * (z 1).val := rfl
  have hk : (W * k + 1 * (z 1).val) / W = k := by rw [Nat.one_mul, Nat.mul_add_div hW, Nat.div_eq_of_lt h1, Nat.add_zero]
  have hm : (W * k + 1 * (z 1).val) % W = (z 1).val := by rw [Nat.one_mul, Nat.mul_add_mod, Nat.mod_eq_of_lt h1]
  have hz : ix2 (n0 := n) (n1 := W) ((Rect.unit (s := ⟨2, ![n, N]⟩) ![0, W * k] (⟨2, ![n, W]⟩ : Shape).size inb).emb z 0)
      ⟨((Rect.unit (s := ⟨2, ![n, N]⟩) ![0, W * k] (⟨2, ![n, W]⟩ : Shape).size inb).emb z 1).val % W, Nat.mod_lt _ hW⟩ = z := by
    funext a
    match a with
    | ⟨0, _⟩ => exact Fin.ext (by show 0 + 1 * (z 0).val = (z 0).val; omega)
    | ⟨1, _⟩ => exact Fin.ext (by show (W * k + 1 * (z 1).val) % W = (z 1).val; exact hm)
  show H (((Rect.unit (s := ⟨2, ![n, N]⟩) ![0, W * k] (⟨2, ![n, W]⟩ : Shape).size inb).emb z 1).val / W) _ = _
  rw [hz, e1, hk]

/-- The two halves of a tile, as a function given by column tiles. -/
theorem roOf_eq (xs : Vec F S256x1 .f32) (xq : Vec F S256x8192 .bf16) (w : Vec F S8192x256 .i8) (ws : Vec F S1x512 .f32)
    (res : Vec F S256x512 .bf16) :
    roOf xs xq w ws res = fun y => (fun k z => if k = 0 then tLo xs xq w ws res z else tHi xs xq w ws res z) ((y 1).val / 256)
      (ix2 (n0 := 256) (n1 := 256) (y 0) ⟨(y 1).val % 256, Nat.mod_lt _ (by decide)⟩) := by
  funext y
  by_cases h : (y 1).val < 256
  · have : (y 1).val / 256 = 0 := by omega
    simp only [roOf, if_pos h, this, if_true]
  · have : ¬ (y 1).val / 256 = 0 := by omega
    simp only [roOf, if_neg h, this, if_false]

/-- Where a point's tile is kept. -/
theorem off1_eq (i : grid0.Coords) : k0_off1 i = ![(i 0).val, 0, 0] := by
  have h : (i 0).val < 10 := (i 0).isLt
  have e : (BitVec.ofNat 32 (i 0).val).toNat = (i 0).val := by rw [BitVec.toNat_ofNat]; omega
  funext a
  match a with
  | ⟨0, _⟩ => exact e
  | ⟨1, _⟩ => rfl
  | ⟨2, _⟩ => rfl
theorem off2_eq (i : grid0.Coords) : k0_off2 i = ![(i 0).val, 0, 256] := by
  have h : (i 0).val < 10 := (i 0).isLt
  have e : (BitVec.ofNat 32 (i 0).val).toNat = (i 0).val := by rw [BitVec.toNat_ofNat]; omega
  funext a
  match a with
  | ⟨0, _⟩ => exact e
  | ⟨1, _⟩ => rfl
  | ⟨2, _⟩ => rfl

end Cert.Kernel.Own

end
-- ==== Proof.KTile.lean ====
/- The tile a point writes, whole and at its place among the kept tiles. -/
module

public import proofs.«01_k».proof.Proof.KVals

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tile a point writes, whole and kept -/

/-- A two-piece store of a tile's halves reads as the tile. -/
theorem read_halves {sp : Space} (v : View sig .tc sp S256x512 .bf16) (f : v.ty.Contents (Elt F)) (xs : Vec F S256x1 .f32) (xq : Vec F S256x8192 .bf16) (w : Vec F S8192x256 .i8) (ws : Vec F S1x512 .f32)
    (res : Vec F S256x512 .bf16) :
    v.read (Elt F) (v.writes (Elt F) f [⟨Rect.unit (s := S256x512) ![0, 256] S256x256.size inb_S256x512_S256x256_0_256, tHi xs xq w ws res⟩,
      ⟨Rect.unit (s := S256x512) ![0, 0] S256x256.size inb_S256x512_S256x256_0_0, tLo xs xq w ws res⟩]) = roOf xs xq w ws res := by
  funext y
  refine View.read_writes_apply_of_pieces v f (roOf xs xq w ws res) _ ?_ y (View.cover_of_tiledL (s := S256x512) _ S256x256.size (by sl_kernel_rfl) y)
  rw [roOf_eq]
  simp only [List.forall_mem_cons, List.not_mem_nil, false_imp_iff, implies_true, and_true]
  exact ⟨fun z => (at_tile (n := 256) (W := 256) (N := 512) (fun k z => if k = 0 then tLo xs xq w ws res z else tHi xs xq w ws res z) (by decide) 1 256 rfl inb_S256x512_S256x256_0_256 z).symm,
    fun z => (at_tile (n := 256) (W := 256) (N := 512) (fun k z => if k = 0 then tLo xs xq w ws res z else tHi xs xq w ws res z) (by decide) 0 0 rfl inb_S256x512_S256x256_0_0 z).symm⟩

/-- Keeping a tile's halves at the point's place replaces that place's tile and nothing else. -/
theorem read_keep {sp : Space} (v : View sig .tc sp S10x256x512 .bf16) (f : v.ty.Contents (Elt F)) (i : grid0.Coords) (xs : Vec F S256x1 .f32) (xq : Vec F S256x8192 .bf16) (w : Vec F S8192x256 .i8) (ws : Vec F S1x512 .f32)
    (res : Vec F S256x512 .bf16) (y : S10x256x512.Idx) :
    v.read (Elt F) (v.writes (Elt F) f [⟨Rect.unit (s := S10x256x512) (k0_off2 i) S1x256x256.size (k0_off2_inb i), shapeCast S1x256x256 (tHi xs xq w ws res) shapeCasts_S256x256_S1x256x256⟩,
      ⟨Rect.unit (s := S10x256x512) (k0_off1 i) S1x256x256.size (k0_off1_inb i), shapeCast S1x256x256 (tLo xs xq w ws res) shapeCasts_S256x256_S1x256x256⟩]) y
      = if (y 0).val = (i 0).val then roOf xs xq w ws res (ix2 (n0 := 256) (n1 := 512) (y 1) (y 2)) else v.read (Elt F) f y := by
  have h2 : (y 2).val < 512 := (y 2).isLt
  have cast : ∀ (T : FVec F S256x256 .bf16) (z : S1x256x256.Idx), shapeCast S1x256x256 T shapeCasts_S256x256_S1x256x256 z
      = T (ix2 (n0 := 256) (n1 := 256) (z 1) (z 2)) := fun T z => by
    show shapeCast S1x256x256 T _ z = _
    simp only [pointwise]
    done
  split
  · next h =>
    by_cases hc : (y 2).val < 256
    · rw [View.read_writes_cons_unit_of_not_mem v f (size := S1x256x256.size) (k0_off2_inb i) _ _ y (off2_eq i) (2 : Fin 3) (Or.inl (by show (y 2).val < 256; exact hc)),
        View.read_writes_cons_unit_of_mem v f (size := S1x256x256.size) (k0_off1_inb i) _ _ y (ix3 (n0 := 1) (n1 := 256) (n2 := 256) 0 (y 1) ⟨(y 2).val % 256, Nat.mod_lt _ (by decide)⟩) (off1_eq i) ?_]
      · rw [cast]; simp only [roOf]; rw [if_pos (by exact hc)]; rfl
      · intro a
        match a with
        | ⟨0, _⟩ => show (y 0).val = (i 0).val + 0; omega
        | ⟨1, _⟩ => show (y 1).val = 0 + (y 1).val; omega
        | ⟨2, _⟩ => show (y 2).val = 0 + (y 2).val % 256; omega
    · rw [View.read_writes_cons_unit_of_mem v f (size := S1x256x256.size) (k0_off2_inb i) _ _ y (ix3 (n0 := 1) (n1 := 256) (n2 := 256) 0 (y 1) ⟨(y 2).val % 256, Nat.mod_lt _ (by decide)⟩) (off2_eq i) ?_]
      · rw [cast]; simp only [roOf]; rw [if_neg (by exact hc)]; rfl
      · intro a
        match a with
        | ⟨0, _⟩ => show (y 0).val = (i 0).val + 0; omega
        | ⟨1, _⟩ => show (y 1).val = 0 + (y 1).val; omega
        | ⟨2, _⟩ => show (y 2).val = 256 + (y 2).val % 256; omega
  · next h =>
    have hne : (y 0).val < (i 0).val ∨ (i 0).val + 1 ≤ (y 0).val := by omega
    rw [View.read_writes_cons_unit_of_not_mem v f (size := S1x256x256.size) (k0_off2_inb i) _ _ y (off2_eq i) (0 : Fin 3) hne,
      View.read_writes_cons_unit_of_not_mem v f (size := S1x256x256.size) (k0_off1_inb i) _ _ y (off1_eq i) (0 : Fin 3) hne]
    rfl

end Cert.Kernel.Own

end
-- ==== Proof.KBands.lean ====
/- Eight bands of 32 rows, stored one by one, read as the whole block. -/
module

public import proofs.«01_k».proof.Proof.KTile

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Eight bands of rows, stored one by one, are the whole block's. -/
theorem bands_xs {sp : Space} (v : View sig .tc sp S256x1 .f32) (f : v.ty.Contents (Elt F)) (x : Vec F S256x8192 .bf16) :
    v.read (Elt F) (v.writes (Elt F) f [⟨Rect.unit (s := S256x1) ![224, 0] S32x1.size inb_S256x1_S32x1_224_0, k0_pay5 (xRows x 7)⟩, ⟨Rect.unit (s := S256x1) ![192, 0] S32x1.size inb_S256x1_S32x1_192_0, k0_pay5 (xRows x 6)⟩, ⟨Rect.unit (s := S256x1) ![160, 0] S32x1.size inb_S256x1_S32x1_160_0, k0_pay5 (xRows x 5)⟩, ⟨Rect.unit (s := S256x1) ![128, 0] S32x1.size inb_S256x1_S32x1_128_0, k0_pay5 (xRows x 4)⟩, ⟨Rect.unit (s := S256x1) ![96, 0] S32x1.size inb_S256x1_S32x1_96_0, k0_pay5 (xRows x 3)⟩, ⟨Rect.unit (s := S256x1) ![64, 0] S32x1.size inb_S256x1_S32x1_64_0, k0_pay5 (xRows x 2)⟩, ⟨Rect.unit (s := S256x1) ![32, 0] S32x1.size inb_S256x1_S32x1_32_0, k0_pay5 (xRows x 1)⟩, ⟨Rect.unit (s := S256x1) ![0, 0] S32x1.size inb_S256x1_S32x1_0_0, k0_pay5 (xRows x 0)⟩]) = xsOf x := by
  funext y
  refine View.read_writes_apply_of_pieces v f (xsOf x) _ ?_ y (View.cover_of_tiledL (s := S256x1) _ S32x1.size (by sl_kernel_rfl) y)
  simp only [List.forall_mem_cons, List.not_mem_nil, false_imp_iff, implies_true, and_true]
  exact ⟨fun z => (at_band (W := 1) (fun k => k0_pay5 (xRows x k)) 7 224 rfl inb_S256x1_S32x1_224_0 z).symm,
    fun z => (at_band (W := 1) (fun k => k0_pay5 (xRows x k)) 6 192 rfl inb_S256x1_S32x1_192_0 z).symm,
    fun z => (at_band (W := 1) (fun k => k0_pay5 (xRows x k)) 5 160 rfl inb_S256x1_S32x1_160_0 z).symm,
    fun z => (at_band (W := 1) (fun k => k0_pay5 (xRows x k)) 4 128 rfl inb_S256x1_S32x1_128_0 z).symm,
    fun z => (at_band (W := 1) (fun k => k0_pay5 (xRows x k)) 3 96 rfl inb_S256x1_S32x1_96_0 z).symm,
    fun z => (at_band (W := 1) (fun k => k0_pay5 (xRows x k)) 2 64 rfl inb_S256x1_S32x1_64_0 z).symm,
    fun z => (at_band (W := 1) (fun k => k0_pay5 (xRows x k)) 1 32 rfl inb_S256x1_S32x1_32_0 z).symm,
    fun z => (at_band (W := 1) (fun k => k0_pay5 (xRows x k)) 0 0 rfl inb_S256x1_S32x1_0_0 z).symm⟩

/-- Eight bands of rows, stored one by one, are the whole block's. -/
theorem bands_xc {sp : Space} (v : View sig .tc sp S256x8192 .i8) (f : v.ty.Contents (Elt F)) (x : Vec F S256x8192 .bf16) :
    v.read (Elt F) (v.writes (Elt F) f [⟨Rect.unit (s := S256x8192) ![224, 0] S32x8192.size inb_S256x8192_S32x8192_224_0, k0_pay7 (xRows x 7)⟩, ⟨Rect.unit (s := S256x8192) ![192, 0] S32x8192.size inb_S256x8192_S32x8192_192_0, k0_pay7 (xRows x 6)⟩, ⟨Rect.unit (s := S256x8192) ![160, 0] S32x8192.size inb_S256x8192_S32x8192_160_0, k0_pay7 (xRows x 5)⟩, ⟨Rect.unit (s := S256x8192) ![128, 0] S32x8192.size inb_S256x8192_S32x8192_128_0, k0_pay7 (xRows x 4)⟩, ⟨Rect.unit (s := S256x8192) ![96, 0] S32x8192.size inb_S256x8192_S32x8192_96_0, k0_pay7 (xRows x 3)⟩, ⟨Rect.unit (s := S256x8192) ![64, 0] S32x8192.size inb_S256x8192_S32x8192_64_0, k0_pay7 (xRows x 2)⟩, ⟨Rect.unit (s := S256x8192) ![32, 0] S32x8192.size inb_S256x8192_S32x8192_32_0, k0_pay7 (xRows x 1)⟩, ⟨Rect.unit (s := S256x8192) ![0, 0] S32x8192.size inb_S256x8192_S32x8192_0_0, k0_pay7 (xRows x 0)⟩]) = xcOf x := by
  funext y
  refine View.read_writes_apply_of_pieces v f (xcOf x) _ ?_ y (View.cover_of_tiledL (s := S256x8192) _ S32x8192.size (by sl_kernel_rfl) y)
  simp only [List.forall_mem_cons, List.not_mem_nil, false_imp_iff, implies_true, and_true]
  exact ⟨fun z => (at_band (W := 8192) (fun k => k0_pay7 (xRows x k)) 7 224 rfl inb_S256x8192_S32x8192_224_0 z).symm,
    fun z => (at_band (W := 8192) (fun k => k0_pay7 (xRows x k)) 6 192 rfl inb_S256x8192_S32x8192_192_0 z).symm,
    fun z => (at_band (W := 8192) (fun k => k0_pay7 (xRows x k)) 5 160 rfl inb_S256x8192_S32x8192_160_0 z).symm,
    fun z => (at_band (W := 8192) (fun k => k0_pay7 (xRows x k)) 4 128 rfl inb_S256x8192_S32x8192_128_0 z).symm,
    fun z => (at_band (W := 8192) (fun k => k0_pay7 (xRows x k)) 3 96 rfl inb_S256x8192_S32x8192_96_0 z).symm,
    fun z => (at_band (W := 8192) (fun k => k0_pay7 (xRows x k)) 2 64 rfl inb_S256x8192_S32x8192_64_0 z).symm,
    fun z => (at_band (W := 8192) (fun k => k0_pay7 (xRows x k)) 1 32 rfl inb_S256x8192_S32x8192_32_0 z).symm,
    fun z => (at_band (W := 8192) (fun k => k0_pay7 (xRows x k)) 0 0 rfl inb_S256x8192_S32x8192_0_0 z).symm⟩

/-- Eight bands of rows, stored one by one, are the whole block's. -/
theorem bands_xq {sp : Space} (v : View sig .tc sp S256x8192 .bf16) (f : v.ty.Contents (Elt F)) (x : Vec F S256x8192 .bf16) :
    v.read (Elt F) (v.writes (Elt F) f [⟨Rect.unit (s := S256x8192) ![224, 0] S32x8192.size inb_S256x8192_S32x8192_224_0, k0_pay8 (xRows x 7)⟩, ⟨Rect.unit (s := S256x8192) ![192, 0] S32x8192.size inb_S256x8192_S32x8192_192_0, k0_pay8 (xRows x 6)⟩, ⟨Rect.unit (s := S256x8192) ![160, 0] S32x8192.size inb_S256x8192_S32x8192_160_0, k0_pay8 (xRows x 5)⟩, ⟨Rect.unit (s := S256x8192) ![128, 0] S32x8192.size inb_S256x8192_S32x8192_128_0, k0_pay8 (xRows x 4)⟩, ⟨Rect.unit (s := S256x8192) ![96, 0] S32x8192.size inb_S256x8192_S32x8192_96_0, k0_pay8 (xRows x 3)⟩, ⟨Rect.unit (s := S256x8192) ![64, 0] S32x8192.size inb_S256x8192_S32x8192_64_0, k0_pay8 (xRows x 2)⟩, ⟨Rect.unit (s := S256x8192) ![32, 0] S32x8192.size inb_S256x8192_S32x8192_32_0, k0_pay8 (xRows x 1)⟩, ⟨Rect.unit (s := S256x8192) ![0, 0] S32x8192.size inb_S256x8192_S32x8192_0_0, k0_pay8 (xRows x 0)⟩]) = xqOf x := by
  funext y
  refine View.read_writes_apply_of_pieces v f (xqOf x) _ ?_ y (View.cover_of_tiledL (s := S256x8192) _ S32x8192.size (by sl_kernel_rfl) y)
  simp only [List.forall_mem_cons, List.not_mem_nil, false_imp_iff, implies_true, and_true]
  exact ⟨fun z => (at_band (W := 8192) (fun k => k0_pay8 (xRows x k)) 7 224 rfl inb_S256x8192_S32x8192_224_0 z).symm,
    fun z => (at_band (W := 8192) (fun k => k0_pay8 (xRows x k)) 6 192 rfl inb_S256x8192_S32x8192_192_0 z).symm,
    fun z => (at_band (W := 8192) (fun k => k0_pay8 (xRows x k)) 5 160 rfl inb_S256x8192_S32x8192_160_0 z).symm,
    fun z => (at_band (W := 8192) (fun k => k0_pay8 (xRows x k)) 4 128 rfl inb_S256x8192_S32x8192_128_0 z).symm,
    fun z => (at_band (W := 8192) (fun k => k0_pay8 (xRows x k)) 3 96 rfl inb_S256x8192_S32x8192_96_0 z).symm,
    fun z => (at_band (W := 8192) (fun k => k0_pay8 (xRows x k)) 2 64 rfl inb_S256x8192_S32x8192_64_0 z).symm,
    fun z => (at_band (W := 8192) (fun k => k0_pay8 (xRows x k)) 1 32 rfl inb_S256x8192_S32x8192_32_0 z).symm,
    fun z => (at_band (W := 8192) (fun k => k0_pay8 (xRows x k)) 0 0 rfl inb_S256x8192_S32x8192_0_0 z).symm⟩

end Cert.Kernel.Own

end
-- ==== Proof.KRunA.lean ====
/- The run of the kernel body at the first point: the activations are quantised into the two outputs and the scratch, the sum of squares starts at zero, and the first tile is done. -/
module

public import proofs.«01_k».proof.Proof.KRuns

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each buffer at the first point: the activations are quantised into the two outputs and the scratch, the sum of squares starts at zero, and the first tile is done. The pieces are found by the run, which is the proof that
    the body leaves them: the inputs' buffers hold `x1`–`x5`, a buffer this case stores nothing into is handed back as found. -/
noncomputable def runA (c : Dev nD) (i : grid0.Coords) (arg1 : Memref sig .tc .vmem S256x8192 .bf16) (harg1 : arg1.IsWhole) (arg2 : Memref sig .tc .vmem S8192x256 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x5120 .bf16) (harg5 : arg5.IsWhole) (arg6 : Memref sig .tc .vmem S256x512 .bf16) (harg6 : arg6.IsWhole) (arg7 : Memref sig .tc .vmem S256x8192 .i8) (harg7 : arg7.IsWhole) (arg8 : Memref sig .tc .vmem S256x1 .f32) (harg8 : arg8.IsWhole) (arg9 : Memref sig .tc .vmem S256x5120 .fp8e4m3) (harg9 : arg9.IsWhole) (arg10 : Memref sig .tc .vmem S256x1 .f32) (harg10 : arg10.IsWhole) (arg11 : Memref sig .tc .vmem S256x8192 .bf16) (harg11 : arg11.IsWhole) (arg12 : Memref sig .tc .vmem S10x256x512 .bf16) (harg12 : arg12.IsWhole) (arg13 : Memref sig .tc .vmem S256x128 .f32) (harg13 : arg13.IsWhole) (hc0 : cond0_0 i) (hc1 : ¬cond0_1 i)
    (x1 : Vec F S256x8192 .bf16) (x2 : Vec F S8192x256 .i8) (x3 : Vec F S1x512 .f32) (x4 : Vec F S256x512 .bf16) (x5 : Vec F S1x5120 .bf16) :
    Σ' (L6 : List (View.Piece (Elt F) S256x512 .bf16)), Σ' (L7 : List (View.Piece (Elt F) S256x8192 .i8)), Σ' (L8 : List (View.Piece (Elt F) S256x1 .f32)), Σ' (L11 : List (View.Piece (Elt F) S256x8192 .bf16)), Σ' (L12 : List (View.Piece (Elt F) S10x256x512 .bf16)), { L13 : List (View.Piece (Elt F) S256x128 .f32) //
      ∀ (x9 : Vec F S256x5120 .fp8e4m3) (x10 : Vec F S256x1 .f32) (x12 : Vec F S10x256x512 .bf16) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x9 ∗ owns (c : Thread nD τ) arg10 fullShare x10 ∗ (∃ d, owns (c : Thread nD τ) arg11 fullShare d) ∗ owns (c : Thread nD τ) arg12 fullShare x12 ∗ (∃ d, owns (c : Thread nD τ) arg13 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread x12) L12) ∗ (∃ f, arg13.view.loc (c : Thread nD τ) ↦[arg13.view.set]{fullShare} arg13.view.writes (Elt F) f L13)) -∗ K ⟨⟩))
          ⊢ wp frame (wpE (defs₀ (F := F)) Variants.none c none) E (cc0_w4a8_oproj i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun x9 x10 x12 E K => ?run⟩
  case run =>
    simp only [cc0_w4a8_oproj_eq_skeleton]; unfold cc0_w4a8_oproj_skel
    simp only [k0_part15_eq_skeleton, k0_part1_eq_skeleton, k0_part2_eq_skeleton, k0_part3_eq_skeleton, k0_part4_eq_skeleton, k0_part5_eq_skeleton, k0_part6_eq_skeleton, k0_part16_eq_skeleton, k0_part17_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%d11, %f11, -, H11⟩, ⟨%f12, %hf12, H12⟩, ⟨%d13, %f13, -, H13⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg12.eq_unread hf12
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists f6; iexact H6
    isplitl [H7]
    · iexists f7; iexact H7
    isplitl [H8]
    · iexists f8; iexact H8
    isplitl [H9]
    · iexists _; isplitr; · ipureintro; exact harg9.read_unread _
      iexact H9
    isplitl [H10]
    · iexists _; isplitr; · ipureintro; exact harg10.read_unread _
      iexact H10
    isplitl [H11]
    · iexists f11; iexact H11
    isplitl [H12]
    · iexact H12
    iexists f13; iexact H13

end Cert.Kernel.Own

end
-- ==== Proof.KOutA.lean ====
/- What the first point leaves, as functions of the blocks it reads. -/
module

public import proofs.«01_k».proof.Proof.KBands
public import proofs.«01_k».proof.Proof.KRunA
public import Idealize.ShloMosaic.Lib.Tactic.RunNames

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords) (arg1 : Memref sig .tc .vmem S256x8192 .bf16) (harg1 : arg1.IsWhole) (arg2 : Memref sig .tc .vmem S8192x256 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x5120 .bf16) (harg5 : arg5.IsWhole) (arg6 : Memref sig .tc .vmem S256x512 .bf16) (harg6 : arg6.IsWhole) (arg7 : Memref sig .tc .vmem S256x8192 .i8) (harg7 : arg7.IsWhole) (arg8 : Memref sig .tc .vmem S256x1 .f32) (harg8 : arg8.IsWhole) (arg9 : Memref sig .tc .vmem S256x5120 .fp8e4m3) (harg9 : arg9.IsWhole) (arg10 : Memref sig .tc .vmem S256x1 .f32) (harg10 : arg10.IsWhole) (arg11 : Memref sig .tc .vmem S256x8192 .bf16) (harg11 : arg11.IsWhole) (arg12 : Memref sig .tc .vmem S10x256x512 .bf16) (harg12 : arg12.IsWhole) (arg13 : Memref sig .tc .vmem S256x128 .f32) (harg13 : arg13.IsWhole)
  (hc0 : cond0_0 i) (hc1 : ¬cond0_1 i)
  (x1 : Vec F S256x8192 .bf16) (x2 : Vec F S8192x256 .i8) (x3 : Vec F S1x512 .f32) (x4 : Vec F S256x512 .bf16) (x5 : Vec F S1x5120 .bf16)

/-- The scales. -/
theorem runA_xs {sp : Space} (v : View sig .tc sp S256x1 .f32) (f : v.ty.Contents (Elt F)) :
    v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5).2.2.1) = xsOf x1 := by
  dsimp only [runA]
  sl_unfold_run_names
  rw [read_xRows _ _ 0 0 rfl (by decide), read_xRows _ _ 1 32 rfl (by decide), read_xRows _ _ 2 64 rfl (by decide), read_xRows _ _ 3 96 rfl (by decide), read_xRows _ _ 4 128 rfl (by decide), read_xRows _ _ 5 160 rfl (by decide), read_xRows _ _ 6 192 rfl (by decide), read_xRows _ _ 7 224 rfl (by decide), harg1.read_unread]
  exact bands_xs v f x1

/-- The codes. -/
theorem runA_xc {sp : Space} (v : View sig .tc sp S256x8192 .i8) (f : v.ty.Contents (Elt F)) :
    v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5).2.1) = xcOf x1 := by
  dsimp only [runA]
  sl_unfold_run_names
  rw [read_xRows _ _ 0 0 rfl (by decide), read_xRows _ _ 1 32 rfl (by decide), read_xRows _ _ 2 64 rfl (by decide), read_xRows _ _ 3 96 rfl (by decide), read_xRows _ _ 4 128 rfl (by decide), read_xRows _ _ 5 160 rfl (by decide), read_xRows _ _ 6 192 rfl (by decide), read_xRows _ _ 7 224 rfl (by decide), harg1.read_unread]
  exact bands_xc v f x1

/-- The codes as floats. -/
theorem runA_xq {sp : Space} (v : View sig .tc sp S256x8192 .bf16) (f : v.ty.Contents (Elt F)) :
    v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5).2.2.2.1) = xqOf x1 := by
  dsimp only [runA]
  sl_unfold_run_names
  rw [read_xRows _ _ 0 0 rfl (by decide), read_xRows _ _ 1 32 rfl (by decide), read_xRows _ _ 2 64 rfl (by decide), read_xRows _ _ 3 96 rfl (by decide), read_xRows _ _ 4 128 rfl (by decide), read_xRows _ _ 5 160 rfl (by decide), read_xRows _ _ 6 192 rfl (by decide), read_xRows _ _ 7 224 rfl (by decide), harg1.read_unread]
  exact bands_xq v f x1

/-- The scales as the tile reads them back. -/
theorem cov_xs (inb : ∀ a, ![0, 0] a + S256x1.size a ≤ S256x1.size a) :
    arg8.view.readCov (runA.sl.H8_8 c arg1 harg1 x1) (Rect.unit (s := S256x1) ![0, 0] S256x1.size inb).toLoadRect = xsOf x1 := by
  show arg8.view.readAt (Elt F) _ (arg8.view.writes (Elt F) arg8.view.junk _) = _
  rw [View.readAt_full]
  sl_unfold_run_names
  rw [read_xRows _ _ 0 0 rfl (by decide), read_xRows _ _ 1 32 rfl (by decide), read_xRows _ _ 2 64 rfl (by decide), read_xRows _ _ 3 96 rfl (by decide), read_xRows _ _ 4 128 rfl (by decide), read_xRows _ _ 5 160 rfl (by decide), read_xRows _ _ 6 192 rfl (by decide), read_xRows _ _ 7 224 rfl (by decide), harg1.read_unread]
  exact bands_xs arg8.view _ x1

/-- The codes as the tile reads them back. -/
theorem cov_xq (inb : ∀ a, ![0, 0] a + S256x8192.size a ≤ S256x8192.size a) :
    arg11.view.readCov (runA.sl.H11_8 c arg1 harg1 x1) (Rect.unit (s := S256x8192) ![0, 0] S256x8192.size inb).toLoadRect = xqOf x1 := by
  show arg11.view.readAt (Elt F) _ (arg11.view.writes (Elt F) arg11.view.junk _) = _
  rw [View.readAt_full]
  sl_unfold_run_names
  rw [read_xRows _ _ 0 0 rfl (by decide), read_xRows _ _ 1 32 rfl (by decide), read_xRows _ _ 2 64 rfl (by decide), read_xRows _ _ 3 96 rfl (by decide), read_xRows _ _ 4 128 rfl (by decide), read_xRows _ _ 5 160 rfl (by decide), read_xRows _ _ 6 192 rfl (by decide), read_xRows _ _ 7 224 rfl (by decide), harg1.read_unread]
  exact bands_xq arg11.view _ x1

/-- The tile. -/
theorem runA_ro {sp : Space} (v : View sig .tc sp S256x512 .bf16) (f : v.ty.Contents (Elt F)) :
    v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5).1) = roOf (xsOf x1) (xqOf x1) x2 x3 x4 := by
  rw [← read_halves v f]
  dsimp only [runA]
  sl_unfold_run_values
  rw [cov_xs, cov_xq, View.readAt_full, harg2.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The tile at its place among the kept ones. -/
theorem runA_keep (x12 : Vec F S10x256x512 .bf16) (y : S10x256x512.Idx) :
    arg12.view.read (Elt F) (arg12.view.writes (Elt F) (harg12.unread x12) (runA c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5).2.2.2.2.1) y
      = if (y 0).val = (i 0).val then roOf (xsOf x1) (xqOf x1) x2 x3 x4 (ix2 (n0 := 256) (n1 := 512) (y 1) (y 2)) else x12 y := by
  have e := read_keep arg12.view (harg12.unread x12) i (xsOf x1) (xqOf x1) x2 x3 x4 y
  rw [harg12.read_unread] at e
  rw [← e]
  dsimp only [runA]
  sl_unfold_run_values
  rw [cov_xs, cov_xq, View.readAt_full, harg2.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The sums of squares. -/
theorem runA_ss {sp : Space} (v : View sig .tc sp S256x128 .f32) (f : v.ty.Contents (Elt F)) :
    v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5).2.2.2.2.2.1) = ssOf (xsOf x1) (xqOf x1) x2 x3 x4 k0_pay3 := by
  dsimp only [runA]
  sl_unfold_run_values
  rw [View.read_writes_full, cov_xs, cov_xq]
  (try unfold runA.sl.H13_2); (try unfold runA.sl.H13_1)
  rw [View.readCov_full]
  sl_unfold_run_values
  rw [cov_xs, cov_xq, View.readAt_full, harg2.read_unread,
    read_wsCols _ _ 0 0 rfl (by decide), read_wsCols _ _ 1 256 rfl (by decide), read_resCols _ _ 0 0 rfl (by decide), read_resCols _ _ 1 256 rfl (by decide),
    harg3.read_unread, harg4.read_unread]
  unfold runA.sl.H13_1
  rw [View.readCov_full]
  rfl

end Cert.Kernel.Own

end
-- ==== Proof.KRunB.lean ====
/- The run of the kernel body at a point between the first and the last: one tile. -/
module

public import proofs.«01_k».proof.Proof.KRuns

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each buffer at a point between the first and the last: one tile. The pieces are found by the run, which is the proof that
    the body leaves them: the inputs' buffers hold `x1`–`x5`, a buffer this case stores nothing into is handed back as found. -/
noncomputable def runB (c : Dev nD) (i : grid0.Coords) (arg1 : Memref sig .tc .vmem S256x8192 .bf16) (harg1 : arg1.IsWhole) (arg2 : Memref sig .tc .vmem S8192x256 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x5120 .bf16) (harg5 : arg5.IsWhole) (arg6 : Memref sig .tc .vmem S256x512 .bf16) (harg6 : arg6.IsWhole) (arg7 : Memref sig .tc .vmem S256x8192 .i8) (harg7 : arg7.IsWhole) (arg8 : Memref sig .tc .vmem S256x1 .f32) (harg8 : arg8.IsWhole) (arg9 : Memref sig .tc .vmem S256x5120 .fp8e4m3) (harg9 : arg9.IsWhole) (arg10 : Memref sig .tc .vmem S256x1 .f32) (harg10 : arg10.IsWhole) (arg11 : Memref sig .tc .vmem S256x8192 .bf16) (harg11 : arg11.IsWhole) (arg12 : Memref sig .tc .vmem S10x256x512 .bf16) (harg12 : arg12.IsWhole) (arg13 : Memref sig .tc .vmem S256x128 .f32) (harg13 : arg13.IsWhole) (hc0 : ¬cond0_0 i) (hc1 : ¬cond0_1 i)
    (x1 : Vec F S256x8192 .bf16) (x2 : Vec F S8192x256 .i8) (x3 : Vec F S1x512 .f32) (x4 : Vec F S256x512 .bf16) (x5 : Vec F S1x5120 .bf16) (x8 : Vec F S256x1 .f32) (x11 : Vec F S256x8192 .bf16) (x13 : Vec F S256x128 .f32) :
    Σ' (L6 : List (View.Piece (Elt F) S256x512 .bf16)), Σ' (L12 : List (View.Piece (Elt F) S10x256x512 .bf16)), { L13 : List (View.Piece (Elt F) S256x128 .f32) //
      ∀ (x7 : Vec F S256x8192 .i8) (x9 : Vec F S256x5120 .fp8e4m3) (x10 : Vec F S256x1 .f32) (x12 : Vec F S10x256x512 .bf16) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13)) -∗ K ⟨⟩))
          ⊢ wp frame (wpE (defs₀ (F := F)) Variants.none c none) E (cc0_w4a8_oproj i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun x7 x9 x10 x12 E K => ?run⟩
  case run =>
    simp only [cc0_w4a8_oproj_eq_skeleton]; unfold cc0_w4a8_oproj_skel
    simp only [k0_part15_eq_skeleton, k0_part16_eq_skeleton, k0_part17_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists f6; iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexact H12
    iexact H13

end Cert.Kernel.Own

end
-- ==== Proof.KOutB.lean ====
/- What a point between the first and the last leaves, as functions of the blocks it reads. -/
module

public import proofs.«01_k».proof.Proof.KTile
public import proofs.«01_k».proof.Proof.KRunB
public import Idealize.ShloMosaic.Lib.Tactic.RunNames

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords) (arg1 : Memref sig .tc .vmem S256x8192 .bf16) (harg1 : arg1.IsWhole) (arg2 : Memref sig .tc .vmem S8192x256 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x5120 .bf16) (harg5 : arg5.IsWhole) (arg6 : Memref sig .tc .vmem S256x512 .bf16) (harg6 : arg6.IsWhole) (arg7 : Memref sig .tc .vmem S256x8192 .i8) (harg7 : arg7.IsWhole) (arg8 : Memref sig .tc .vmem S256x1 .f32) (harg8 : arg8.IsWhole) (arg9 : Memref sig .tc .vmem S256x5120 .fp8e4m3) (harg9 : arg9.IsWhole) (arg10 : Memref sig .tc .vmem S256x1 .f32) (harg10 : arg10.IsWhole) (arg11 : Memref sig .tc .vmem S256x8192 .bf16) (harg11 : arg11.IsWhole) (arg12 : Memref sig .tc .vmem S10x256x512 .bf16) (harg12 : arg12.IsWhole) (arg13 : Memref sig .tc .vmem S256x128 .f32) (harg13 : arg13.IsWhole)
  (hc0 : ¬cond0_0 i) (hc1 : ¬cond0_1 i)
  (x1 : Vec F S256x8192 .bf16) (x2 : Vec F S8192x256 .i8) (x3 : Vec F S1x512 .f32) (x4 : Vec F S256x512 .bf16) (x5 : Vec F S1x5120 .bf16) (x8 : Vec F S256x1 .f32) (x11 : Vec F S256x8192 .bf16) (x13 : Vec F S256x128 .f32)

/-- The tile. -/
theorem runB_ro {sp : Space} (v : View sig .tc sp S256x512 .bf16) (f : v.ty.Contents (Elt F)) :
    v.read (Elt F) (v.writes (Elt F) f (runB c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x13).1) = roOf x8 x11 x2 x3 x4 := by
  rw [← read_halves v f]
  dsimp only [runB]
  sl_unfold_run_names
  rw [View.readAt_full, View.readAt_full, View.readAt_full, harg2.read_unread, harg11.read_unread, harg8.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The tile at its place among the kept ones. -/
theorem runB_keep (x12 : Vec F S10x256x512 .bf16) (y : S10x256x512.Idx) :
    arg12.view.read (Elt F) (arg12.view.writes (Elt F) (harg12.unread x12) (runB c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x13).2.1) y
      = if (y 0).val = (i 0).val then roOf x8 x11 x2 x3 x4 (ix2 (n0 := 256) (n1 := 512) (y 1) (y 2)) else x12 y := by
  have e := read_keep arg12.view (harg12.unread x12) i x8 x11 x2 x3 x4 y
  rw [harg12.read_unread] at e
  rw [← e]
  dsimp only [runB]
  sl_unfold_run_names
  rw [View.readAt_full, View.readAt_full, View.readAt_full, harg2.read_unread, harg11.read_unread, harg8.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The sums of squares. -/
theorem runB_ss {sp : Space} (v : View sig .tc sp S256x128 .f32) (f : v.ty.Contents (Elt F)) :
    v.read (Elt F) (v.writes (Elt F) f (runB c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x13).2.2.1) = ssOf x8 x11 x2 x3 x4 x13 := by
  dsimp only [runB]
  sl_unfold_run_names
  rw [View.read_writes_full]
  rw [View.readCov_full, View.readAt_full, View.readAt_full, View.readAt_full, View.readAt_full, harg2.read_unread, harg11.read_unread, harg8.read_unread, harg13.read_unread,
    read_wsCols _ _ 0 0 rfl (by decide), read_wsCols _ _ 1 256 rfl (by decide), read_resCols _ _ 0 0 rfl (by decide), read_resCols _ _ 1 256 rfl (by decide),
    harg3.read_unread, harg4.read_unread]
  rfl

end Cert.Kernel.Own

end
-- ==== Proof.KRunC.lean ====
/- The run of the kernel body at the last point: its tile, then the norm, the scale exponent and the codes of the whole row block. -/
module

public import proofs.«01_k».proof.Proof.KRuns

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each buffer at the last point: its tile, then the norm, the scale exponent and the codes of the whole row block. The pieces are found by the run, which is the proof that
    the body leaves them: the inputs' buffers hold `x1`–`x5`, a buffer this case stores nothing into is handed back as found. -/
noncomputable def runC (c : Dev nD) (i : grid0.Coords) (arg1 : Memref sig .tc .vmem S256x8192 .bf16) (harg1 : arg1.IsWhole) (arg2 : Memref sig .tc .vmem S8192x256 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x5120 .bf16) (harg5 : arg5.IsWhole) (arg6 : Memref sig .tc .vmem S256x512 .bf16) (harg6 : arg6.IsWhole) (arg7 : Memref sig .tc .vmem S256x8192 .i8) (harg7 : arg7.IsWhole) (arg8 : Memref sig .tc .vmem S256x1 .f32) (harg8 : arg8.IsWhole) (arg9 : Memref sig .tc .vmem S256x5120 .fp8e4m3) (harg9 : arg9.IsWhole) (arg10 : Memref sig .tc .vmem S256x1 .f32) (harg10 : arg10.IsWhole) (arg11 : Memref sig .tc .vmem S256x8192 .bf16) (harg11 : arg11.IsWhole) (arg12 : Memref sig .tc .vmem S10x256x512 .bf16) (harg12 : arg12.IsWhole) (arg13 : Memref sig .tc .vmem S256x128 .f32) (harg13 : arg13.IsWhole) (hc0 : ¬cond0_0 i) (hc1 : cond0_1 i)
    (x1 : Vec F S256x8192 .bf16) (x2 : Vec F S8192x256 .i8) (x3 : Vec F S1x512 .f32) (x4 : Vec F S256x512 .bf16) (x5 : Vec F S1x5120 .bf16) (x8 : Vec F S256x1 .f32) (x11 : Vec F S256x8192 .bf16) (x12 : Vec F S10x256x512 .bf16) (x13 : Vec F S256x128 .f32) :
    Σ' (L6 : List (View.Piece (Elt F) S256x512 .bf16)), Σ' (L9 : List (View.Piece (Elt F) S256x5120 .fp8e4m3)), Σ' (L10 : List (View.Piece (Elt F) S256x1 .f32)), Σ' (L12 : List (View.Piece (Elt F) S10x256x512 .bf16)), { L13 : List (View.Piece (Elt F) S256x128 .f32) //
      ∀ (x7 : Vec F S256x8192 .i8) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ owns (c : Thread nD τ) arg11 fullShare x11 ∗ owns (c : Thread nD τ) arg12 fullShare x12 ∗ owns (c : Thread nD τ) arg13 fullShare x13
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ owns (c : Thread nD τ) arg11 fullShare x11 ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13)) -∗ K ⟨⟩))
          ⊢ wp frame (wpE (defs₀ (F := F)) Variants.none c none) E (cc0_w4a8_oproj i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun x7 E K => ?run⟩
  case run =>
    simp only [cc0_w4a8_oproj_eq_skeleton]; unfold cc0_w4a8_oproj_skel
    simp only [k0_part15_eq_skeleton, k0_part16_eq_skeleton, k0_part17_eq_skeleton, k0_part14_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg11.eq_unread hf11; obtain rfl := harg12.eq_unread hf12; obtain rfl := harg13.eq_unread hf13
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists f6; iexact H6
    isplitl [H7]
    · iexists _; isplitr; · ipureintro; exact harg7.read_unread _
      iexact H7
    isplitl [H8]
    · iexists _; isplitr; · ipureintro; exact harg8.read_unread _
      iexact H8
    isplitl [H9]
    · iexists f9; iexact H9
    isplitl [H10]
    · iexists f10; iexact H10
    isplitl [H11]
    · iexists _; isplitr; · ipureintro; exact harg11.read_unread _
      iexact H11
    isplitl [H12]
    · iexact H12
    iexact H13

end Cert.Kernel.Own

end
-- ==== Proof.KOutC.lean ====
/- What the last point leaves, as functions of the blocks it reads. -/
module

public import proofs.«01_k».proof.Proof.KTile
public import proofs.«01_k».proof.Proof.KRunC
public import Idealize.ShloMosaic.Lib.Tactic.RunNames

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Ten tiles of codes, stored one by one, are the whole row block's. -/
theorem tiles_yc {sp : Space} (v : View sig .tc sp S256x5120 .fp8e4m3) (f : v.ty.Contents (Elt F)) (ss : Vec F S256x128 .f32) (r : Vec F S10x256x512 .bf16)
    (g : Vec F S1x5120 .bf16) :
    v.read (Elt F) (v.writes (Elt F) f [⟨Rect.unit (s := S256x5120) ![0, 4608] S256x512.size inb_S256x5120_S256x512_0_4608, ycTile ss r g 9⟩, ⟨Rect.unit (s := S256x5120) ![0, 4096] S256x512.size inb_S256x5120_S256x512_0_4096, ycTile ss r g 8⟩, ⟨Rect.unit (s := S256x5120) ![0, 3584] S256x512.size inb_S256x5120_S256x512_0_3584, ycTile ss r g 7⟩, ⟨Rect.unit (s := S256x5120) ![0, 3072] S256x512.size inb_S256x5120_S256x512_0_3072, ycTile ss r g 6⟩, ⟨Rect.unit (s := S256x5120) ![0, 2560] S256x512.size inb_S256x5120_S256x512_0_2560, ycTile ss r g 5⟩, ⟨Rect.unit (s := S256x5120) ![0, 2048] S256x512.size inb_S256x5120_S256x512_0_2048, ycTile ss r g 4⟩, ⟨Rect.unit (s := S256x5120) ![0, 1536] S256x512.size inb_S256x5120_S256x512_0_1536, ycTile ss r g 3⟩, ⟨Rect.unit (s := S256x5120) ![0, 1024] S256x512.size inb_S256x5120_S256x512_0_1024, ycTile ss r g 2⟩, ⟨Rect.unit (s := S256x5120) ![0, 512] S256x512.size inb_S256x5120_S256x512_0_512, ycTile ss r g 1⟩, ⟨Rect.unit (s := S256x5120) ![0, 0] S256x512.size inb_S256x5120_S256x512_0_0, ycTile ss r g 0⟩]) = ycOf ss r g := by
  funext y
  refine View.read_writes_apply_of_pieces v f (ycOf ss r g) _ ?_ y (View.cover_of_tiledL (s := S256x5120) _ S256x512.size (by sl_kernel_rfl) y)
  simp only [List.forall_mem_cons, List.not_mem_nil, false_imp_iff, implies_true, and_true]
  exact ⟨fun z => (at_tile (n := 256) (W := 512) (N := 5120) (ycTile ss r g) (by decide) 9 4608 rfl inb_S256x5120_S256x512_0_4608 z).symm,
    fun z => (at_tile (n := 256) (W := 512) (N := 5120) (ycTile ss r g) (by decide) 8 4096 rfl inb_S256x5120_S256x512_0_4096 z).symm,
    fun z => (at_tile (n := 256) (W := 512) (N := 5120) (ycTile ss r g) (by decide) 7 3584 rfl inb_S256x5120_S256x512_0_3584 z).symm,
    fun z => (at_tile (n := 256) (W := 512) (N := 5120) (ycTile ss r g) (by decide) 6 3072 rfl inb_S256x5120_S256x512_0_3072 z).symm,
    fun z => (at_tile (n := 256) (W := 512) (N := 5120) (ycTile ss r g) (by decide) 5 2560 rfl inb_S256x5120_S256x512_0_2560 z).symm,
    fun z => (at_tile (n := 256) (W := 512) (N := 5120) (ycTile ss r g) (by decide) 4 2048 rfl inb_S256x5120_S256x512_0_2048 z).symm,
    fun z => (at_tile (n := 256) (W := 512) (N := 5120) (ycTile ss r g) (by decide) 3 1536 rfl inb_S256x5120_S256x512_0_1536 z).symm,
    fun z => (at_tile (n := 256) (W := 512) (N := 5120) (ycTile ss r g) (by decide) 2 1024 rfl inb_S256x5120_S256x512_0_1024 z).symm,
    fun z => (at_tile (n := 256) (W := 512) (N := 5120) (ycTile ss r g) (by decide) 1 512 rfl inb_S256x5120_S256x512_0_512 z).symm,
    fun z => (at_tile (n := 256) (W := 512) (N := 5120) (ycTile ss r g) (by decide) 0 0 rfl inb_S256x5120_S256x512_0_0 z).symm⟩

variable (c : Dev nD) (i : grid0.Coords) (arg1 : Memref sig .tc .vmem S256x8192 .bf16) (harg1 : arg1.IsWhole) (arg2 : Memref sig .tc .vmem S8192x256 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x5120 .bf16) (harg5 : arg5.IsWhole) (arg6 : Memref sig .tc .vmem S256x512 .bf16) (harg6 : arg6.IsWhole) (arg7 : Memref sig .tc .vmem S256x8192 .i8) (harg7 : arg7.IsWhole) (arg8 : Memref sig .tc .vmem S256x1 .f32) (harg8 : arg8.IsWhole) (arg9 : Memref sig .tc .vmem S256x5120 .fp8e4m3) (harg9 : arg9.IsWhole) (arg10 : Memref sig .tc .vmem S256x1 .f32) (harg10 : arg10.IsWhole) (arg11 : Memref sig .tc .vmem S256x8192 .bf16) (harg11 : arg11.IsWhole) (arg12 : Memref sig .tc .vmem S10x256x512 .bf16) (harg12 : arg12.IsWhole) (arg13 : Memref sig .tc .vmem S256x128 .f32) (harg13 : arg13.IsWhole)
  (hc0 : ¬cond0_0 i) (hc1 : cond0_1 i)
  (x1 : Vec F S256x8192 .bf16) (x2 : Vec F S8192x256 .i8) (x3 : Vec F S1x512 .f32) (x4 : Vec F S256x512 .bf16) (x5 : Vec F S1x5120 .bf16) (x8 : Vec F S256x1 .f32) (x11 : Vec F S256x8192 .bf16) (x12 : Vec F S10x256x512 .bf16) (x13 : Vec F S256x128 .f32)

/-- The tile. -/
theorem runC_ro {sp : Space} (v : View sig .tc sp S256x512 .bf16) (f : v.ty.Contents (Elt F)) :
    v.read (Elt F) (v.writes (Elt F) f (runC c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x12 x13).1) = roOf x8 x11 x2 x3 x4 := by
  rw [← read_halves v f]
  dsimp only [runC]
  sl_unfold_run_names
  rw [View.readAt_full, View.readAt_full, View.readAt_full, harg2.read_unread, harg11.read_unread, harg8.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The tile at its place among the kept ones. -/
theorem runC_keep (y : S10x256x512.Idx) :
    (arg12.view.read (Elt F) (arg12.view.writes (Elt F) (harg12.unread x12) (runC c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x12 x13).2.2.2.1)) y
      = if (y 0).val = (i 0).val then roOf x8 x11 x2 x3 x4 (ix2 (n0 := 256) (n1 := 512) (y 1) (y 2)) else x12 y := by
  have e := read_keep arg12.view (harg12.unread x12) i x8 x11 x2 x3 x4 y
  rw [harg12.read_unread] at e
  rw [← e]
  dsimp only [runC]
  sl_unfold_run_names
  rw [View.readAt_full, View.readAt_full, View.readAt_full, harg2.read_unread, harg11.read_unread, harg8.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The sums of squares. -/
theorem runC_ss {sp : Space} (v : View sig .tc sp S256x128 .f32) (f : v.ty.Contents (Elt F)) :
    v.read (Elt F) (v.writes (Elt F) f (runC c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x12 x13).2.2.2.2.1) = (ssOf x8 x11 x2 x3 x4 x13) := by
  dsimp only [runC]
  sl_unfold_run_names
  rw [View.read_writes_full, View.readCov_full, View.readAt_full, View.readAt_full, View.readAt_full, View.readAt_full, harg2.read_unread, harg11.read_unread, harg8.read_unread, harg13.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The sums of squares as the last point's norm reads them back. -/
theorem cov_ss (inb : ∀ a, ![0, 0] a + S256x128.size a ≤ S256x128.size a) :
    arg13.view.readCov (runC.sl.H13_2 c arg2 harg2 arg3 harg3 arg4 harg4 arg8 harg8 arg11 harg11 arg13 harg13 x2 x3 x4 x8 x11 x13)
      (Rect.unit (s := S256x128) ![0, 0] S256x128.size inb).toLoadRect = (ssOf x8 x11 x2 x3 x4 x13) := by
  show arg13.view.readAt (Elt F) _ (arg13.view.writes (Elt F) arg13.view.junk _) = _
  rw [View.readAt_full]
  sl_unfold_run_names
  rw [View.read_writes_full, View.readCov_full, View.readAt_full, View.readAt_full, View.readAt_full, View.readAt_full, harg2.read_unread, harg11.read_unread, harg8.read_unread, harg13.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The scales of the normalised rows. -/
theorem runC_ys {sp : Space} (v : View sig .tc sp S256x1 .f32) (f : v.ty.Contents (Elt F)) :
    v.read (Elt F) (v.writes (Elt F) f (runC c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x12 x13).2.2.1) = ysOf (ssOf x8 x11 x2 x3 x4 x13) (arg12.view.read (Elt F) (arg12.view.writes (Elt F) (harg12.unread x12) (runC c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x12 x13).2.2.2.1)) x5 := by
  dsimp only [runC]
  sl_unfold_run_values
  rw [View.read_writes_full, cov_ss,
    read_rTile _ _ 0 (by decide), read_gTile _ _ 0 0 rfl (by decide),
    read_rTile _ _ 1 (by decide), read_gTile _ _ 1 512 rfl (by decide),
    read_rTile _ _ 2 (by decide), read_gTile _ _ 2 1024 rfl (by decide),
    read_rTile _ _ 3 (by decide), read_gTile _ _ 3 1536 rfl (by decide),
    read_rTile _ _ 4 (by decide), read_gTile _ _ 4 2048 rfl (by decide),
    read_rTile _ _ 5 (by decide), read_gTile _ _ 5 2560 rfl (by decide),
    read_rTile _ _ 6 (by decide), read_gTile _ _ 6 3072 rfl (by decide),
    read_rTile _ _ 7 (by decide), read_gTile _ _ 7 3584 rfl (by decide),
    read_rTile _ _ 8 (by decide), read_gTile _ _ 8 4096 rfl (by decide),
    read_rTile _ _ 9 (by decide), read_gTile _ _ 9 4608 rfl (by decide), harg5.read_unread]
  rfl

/-- The codes of the normalised rows. -/
theorem runC_yc {sp : Space} (v : View sig .tc sp S256x5120 .fp8e4m3) (f : v.ty.Contents (Elt F)) :
    v.read (Elt F) (v.writes (Elt F) f (runC c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x12 x13).2.1) = ycOf (ssOf x8 x11 x2 x3 x4 x13) (arg12.view.read (Elt F) (arg12.view.writes (Elt F) (harg12.unread x12) (runC c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x12 x13).2.2.2.1)) x5 := by
  rw [← tiles_yc v f]
  dsimp only [runC]
  sl_unfold_run_values
  rw [cov_ss,
    read_rTile _ _ 0 (by decide), read_gTile _ _ 0 0 rfl (by decide),
    read_rTile _ _ 1 (by decide), read_gTile _ _ 1 512 rfl (by decide),
    read_rTile _ _ 2 (by decide), read_gTile _ _ 2 1024 rfl (by decide),
    read_rTile _ _ 3 (by decide), read_gTile _ _ 3 1536 rfl (by decide),
    read_rTile _ _ 4 (by decide), read_gTile _ _ 4 2048 rfl (by decide),
    read_rTile _ _ 5 (by decide), read_gTile _ _ 5 2560 rfl (by decide),
    read_rTile _ _ 6 (by decide), read_gTile _ _ 6 3072 rfl (by decide),
    read_rTile _ _ 7 (by decide), read_gTile _ _ 7 3584 rfl (by decide),
    read_rTile _ _ 8 (by decide), read_gTile _ _ 8 4096 rfl (by decide),
    read_rTile _ _ 9 (by decide), read_gTile _ _ 9 4608 rfl (by decide), harg5.read_unread]
  rfl

end Cert.Kernel.Own

end
-- ==== Proof.KData.lean ====
/- The proof data of the pipeline: what each buffer holds point by point, and the invariant of the scratch. -/
module

public import proofs.«01_k».proof.Proof.KOutA
public import proofs.«01_k».proof.Proof.KOutB
public import proofs.«01_k».proof.Proof.KOutC
public import Idealize.ShloMosaic.Lib.Pipeline.TableIdle
public import Idealize.ShloMosaic.Lib.Claim

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold, point by point -/

/-- Point `n`. -/
def pt (n : ℕ) : Fin cfg0.N := ⟨n % 10, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

theorem pt_zero (t : Fin cfg0.N) (h : t.val % 10 = 0) : pt 0 = t :=
  Fin.ext (show 0 % 10 = t.val by have := Nat.lt_of_lt_of_eq t.isLt N_0; omega)

section Data
variable (c : Dev nD)

/-- The activations' scales, codes, and codes as floats. -/
def xsF : Vec F S256x1 .f32 := xsOf (iblk m c 0 (pt 0))
def xcF : Vec F S256x8192 .i8 := xcOf (iblk m c 0 (pt 0))
def xqF : Vec F S256x8192 .bf16 := xqOf (iblk m c 0 (pt 0))
/-- The tile of point `t`. -/
def roF (t : Fin cfg0.N) : Vec F S256x512 .bf16 := roOf (xsF m c) (xqF m c) (iblk m c 1 t) (iblk m c 2 t) (iblk m c 3 t)
/-- The sums of squares after point `n`. -/
def ssF : ℕ → Vec F S256x128 .f32
  | 0 => ssOf (xsF m c) (xqF m c) (iblk m c 1 (pt 0)) (iblk m c 2 (pt 0)) (iblk m c 3 (pt 0)) k0_pay3
  | n + 1 => ssOf (xsF m c) (xqF m c) (iblk m c 1 (pt (n + 1))) (iblk m c 2 (pt (n + 1))) (iblk m c 3 (pt (n + 1))) (ssF n)
/-- All tiles. -/
def rallF : Vec F S10x256x512 .bf16 := fun y => roF m c (pt (y 0).val) (ix2 (n0 := 256) (n1 := 512) (y 1) (y 2))
/-- The codes and scales of the normalised rows. -/
def ycF (t : Fin cfg0.N) : Vec F S256x5120 .fp8e4m3 := ycOf (ssF m c 9) (rallF m c) (iblk m c 4 t)
def ysF (t : Fin cfg0.N) : Vec F S256x1 .f32 := ysOf (ssF m c 9) (rallF m c) (iblk m c 4 t)

variable (t : Fin cfg0.N)

theorem xsF_first (h : t.val % 10 = 0) : xsOf (iblk m c 0 t) = xsF m c := by unfold xsF; rw [pt_zero t h]
theorem xcF_first (h : t.val % 10 = 0) : xcOf (iblk m c 0 t) = xcF m c := by unfold xcF; rw [pt_zero t h]
theorem xqF_first (h : t.val % 10 = 0) : xqOf (iblk m c 0 t) = xqF m c := by unfold xqF; rw [pt_zero t h]
theorem roF_first (h : t.val % 10 = 0) :
    roOf (xsOf (iblk m c 0 t)) (xqOf (iblk m c 0 t)) (iblk m c 1 t) (iblk m c 2 t) (iblk m c 3 t) = roF m c t := by
  unfold roF; rw [xsF_first m c t h, xqF_first m c t h]
theorem ssF_first (h : t.val % 10 = 0) :
    ssOf (xsOf (iblk m c 0 t)) (xqOf (iblk m c 0 t)) (iblk m c 1 t) (iblk m c 2 t) (iblk m c 3 t) k0_pay3 = ssF m c t.val := by
  have hz : t.val = 0 := by have := Nat.lt_of_lt_of_eq t.isLt N_0; omega
  rw [hz]; unfold ssF; rw [xsF_first m c t h, xqF_first m c t h, pt_zero t h]
theorem ssF_later (h : t.val ≠ 0) :
    ssOf (xsF m c) (xqF m c) (iblk m c 1 t) (iblk m c 2 t) (iblk m c 3 t) (ssF m c (t.val - 1)) = ssF m c t.val := by
  obtain ⟨n, hn⟩ := Nat.exists_eq_succ_of_ne_zero h
  have e : pt (n + 1) = t := by rw [← pt_val t, hn]
  rw [hn]
  show _ = ssOf (xsF m c) (xqF m c) (iblk m c 1 (pt (n + 1))) (iblk m c 2 (pt (n + 1))) (iblk m c 3 (pt (n + 1))) (ssF m c n)
  rw [e]; rfl

/-- A point's tile put at its place: the kept tiles up to that point are the ones meant. -/
theorem rall_step (d : Vec F S10x256x512 .bf16) (hd : ∀ y : S10x256x512.Idx, (y 0).val + 1 ≤ t.val → d y = rallF m c y)
    (y : S10x256x512.Idx) (hy : (y 0).val ≤ t.val) :
    (if (y 0).val = (grid0.coords t 0).val then roF m c t (ix2 (n0 := 256) (n1 := 512) (y 1) (y 2)) else d y) = rallF m c y := by
  have ht : t.val < 10 := Nat.lt_of_lt_of_eq t.isLt N_0
  have e0 : (grid0.coords t 0).val = t.val / 1 % 10 := Pipeline.Grid.coords_val t 0 (by decide) rfl
  split
  · next h =>
    have : (y 0).val = t.val := by omega
    unfold rallF; rw [this, pt_val]
  · next h => exact hd y (by omega)
end Data

/-! ## The invariant between points -/

/-- Before the first point anything; after point `n` the codes as floats, the tiles up to `n`, and the sums of squares. -/
def PhiS (c : Dev nD) : ℕ → sProp 𝕄
  | 0 => Pipeline.ΦA spec0 c
  | n + 1 => iprop(iprop(owns (c : Thread nD τ) scM0_0 fullShare (xqF m c)
      ∗ (∃ d, ⌜∀ y : S10x256x512.Idx, (y 0).val ≤ n → d y = rallF m c y⌝ ∗ owns (c : Thread nD τ) scM0_1 fullShare d)
      ∗ owns (c : Thread nD τ) scM0_2 fullShare (ssF m c n)) ∗ (∃ r, prngReg c r))

theorem PhiS_zero (c : Dev nD) (n : ℕ) (hz : n = 0) : PhiS m c n = Pipeline.ΦA spec0 c := by subst hz; rfl

theorem PhiS_succ (c : Dev nD) (n : ℕ) :
    PhiS m c (n + 1) = iprop(iprop(owns (c : Thread nD τ) scM0_0 fullShare (xqF m c)
      ∗ (∃ d, ⌜∀ y : S10x256x512.Idx, (y 0).val ≤ n → d y = rallF m c y⌝ ∗ owns (c : Thread nD τ) scM0_1 fullShare d)
      ∗ owns (c : Thread nD τ) scM0_2 fullShare (ssF m c n)) ∗ (∃ r, prngReg c r)) := rfl

theorem PhiS_pos (c : Dev nD) (n : ℕ) (hz : n ≠ 0) :
    PhiS m c n = iprop(iprop(owns (c : Thread nD τ) scM0_0 fullShare (xqF m c)
      ∗ (∃ d, ⌜∀ y : S10x256x512.Idx, (y 0).val ≤ n - 1 → d y = rallF m c y⌝ ∗ owns (c : Thread nD τ) scM0_1 fullShare d)
      ∗ owns (c : Thread nD τ) scM0_2 fullShare (ssF m c (n - 1))) ∗ (∃ r, prngReg c r)) := by
  cases n with
  | zero => exact absurd rfl hz
  | succ n => rfl

/-! ## The pipeline's proof data -/

/-- The arrays as the region finds them, each input's buffer at its block, the outputs' at what is said above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => roF m c t
    | ⟨6, _⟩ => xcF m c
    | ⟨7, _⟩ => xsF m c
    | ⟨8, _⟩ => ycF m c t
    | ⟨9, _⟩ => ysF m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = roF m c t := by dsimp only [dats]
theorem after0_6 (c : Dev nD) (t : Fin cfg0.N) : (dats m 0 c).after 6 t = xcF m c := by dsimp only [dats]
theorem after0_7 (c : Dev nD) (t : Fin cfg0.N) : (dats m 0 c).after 7 t = xsF m c := by dsimp only [dats]
theorem after0_8 (c : Dev nD) (t : Fin cfg0.N) : (dats m 0 c).after 8 t = ycF m c t := by dsimp only [dats]
theorem after0_9 (c : Dev nD) (t : Fin cfg0.N) : (dats m 0 c).after 9 t = ysF m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Output 6's buffer holds something stored at every point but the first. -/
theorem fresh0_6 (t : Fin cfg0.N) : cfg0.fresh 6 t.val = (t.val % 10 == 0) :=
  cfg0.fresh_tab 6 (fun n => n % 10 == 0) rfl (by decide +kernel) t.val (Nat.le_of_lt t.isLt)
/-- So from the second point on it is found as the first left it. -/
theorem before0_6 (c : Dev nD) (t : Fin cfg0.N) (h : ¬t.val % 10 = 0) (d) : (dats m 0 c).before 6 t d = xcF m c := by
  rw [(dats m 0 c).before_out_traj 6 rfl (fun _ _ => rfl) (fun t _ _ _ => by rw [after0_6, after0_6]) _ t rfl d, fresh0_6,
    if_neg (by simpa using h), after0_6]

/-- Output 7's buffer holds something stored at every point but the first. -/
theorem fresh0_7 (t : Fin cfg0.N) : cfg0.fresh 7 t.val = (t.val % 10 == 0) :=
  cfg0.fresh_tab 7 (fun n => n % 10 == 0) rfl (by decide +kernel) t.val (Nat.le_of_lt t.isLt)
/-- So from the second point on it is found as the first left it. -/
theorem before0_7 (c : Dev nD) (t : Fin cfg0.N) (h : ¬t.val % 10 = 0) (d) : (dats m 0 c).before 7 t d = xsF m c := by
  rw [(dats m 0 c).before_out_traj 7 rfl (fun _ _ => rfl) (fun t _ _ _ => by rw [after0_7, after0_7]) _ t rfl d, fresh0_7,
    if_neg (by simpa using h), after0_7]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- A buffer overwritten is a buffer owned at what it then reads as. -/
theorem keep_intro {s : Shape} {e : EltTy} (c : Dev nD) (M : Memref sig .tc .vmem s e) (f) (L : List (View.Piece (Elt F) s e)) (P : Vec F s e → Prop) (h : P (M.view.read (Elt F) (M.view.writes (Elt F) f L))) :
    (M.view.loc (c : Thread nD τ) ↦[M.view.set]{fullShare} M.view.writes (Elt F) f L : sProp 𝕄) ⊢ iprop(∃ d, ⌜P d⌝ ∗ owns (c : Thread nD τ) M fullShare d) := by
  iintro H
  iexists (M.view.read (Elt F) (M.view.writes (Elt F) f L))
  isplitr
  · ipureintro; exact h
  unfold owns; iexists _; isplitr
  swap; · iexact H
  ipureintro; rfl

end Cert.Kernel.Own

end
-- ==== Proof.KSoundA.lean ====
/- The body's triple at one kind of point. -/
module

public import proofs.«01_k».proof.Proof.KData

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point. -/
theorem sound_A (c : Dev nD) (t : Fin cfg0.N) (h0 : t.val % 10 = 0) (h1 : ¬t.val % 10 = 9) :
    bodyPre m c t ⊢ wp frame (wpE (defs₀ (F := F)) Variants.none c none) Set.univ (bodyAt0 t) (fun _ => bodyPost m c t) := by
    have hN : t.val < 10 := lt_of_lt_of_eq t.isLt (show cfg0.N = 10 from N_0)
    unfold bodyPre bodyPost bodyAt0
    simp only [before0_0, before0_1, before0_2, before0_3, before0_4]
    rw [show (dats m 0 c).owesAt () t.succ = (dats m 0 c).owesAt () t.castSucc from rfl]
    rw [show (dats m 0 c).Φ t.succ = PhiS m c (t.val + 1) from rfl, PhiS_succ]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t ((hcond0_0 t).mpr h0)], after0_6]
    rw [show (dats m 0 c).leavesExact 7 t = owns (c : Thread nD τ) (ms0_7 t) fullShare ((dats m 0 c).after 7 t) from by
      unfold Dat.leavesExact; rw [liveAt0_7 t ((hcond0_0 t).mpr h0)], after0_7]
    rw [Dat.leavesExact_idle (dats m 0 c) 8 t (idleAt0_8 t (fun h => h1 ((hcond0_1 t).mp h))) (noFlush0_8 t (fun h => h1 ((hcond0_1 t).mp h)))]
    rw [Dat.leavesExact_idle (dats m 0 c) 9 t (idleAt0_9 t (fun h => h1 ((hcond0_1 t).mp h))) (noFlush0_9 t (fun h => h1 ((hcond0_1 t).mp h)))]
    rw [Phi_castSucc m c t, PhiS_zero m c _ (by omega), PhiA0_eq]
    iintro ⟨⟨⟨HS0, ⟨%d12, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2 _ _ d12 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexact H9
    isplitl [HS0]; · iexact HS0
    isplitl [HS1]; · iexact HS1
    isplitl [HS2]; · iexact HS2
    iintro ⟨H0, H1, H2, H3, H4, ⟨%e5, H5⟩, ⟨%e6, H6⟩, ⟨%e7, H7⟩, H8, H9, ⟨%es0, HS0⟩, HS1, ⟨%es2, HS2⟩⟩
    isplitl [HS0 HS1 HS2 Hg]
    · isplitl [HS0 HS1 HS2]
      · isplitl [HS0]
        · unfold owns; iexists _; isplitr
          swap; · iexact HS0
          ipureintro; exact (runA_xq c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _).trans (xqF_first m c t h0)
        isplitl [HS1]
        · iapply (keep_intro c scM0_1 _ _ (fun d => ∀ y : S10x256x512.Idx, (y 0).val ≤ t.val → d y = rallF m c y) (fun y hy => (runA_keep c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) d12 y).trans ((by rw [roF_first m c t h0]; exact rall_step m c t d12 (fun y h => absurd h (by omega)) y hy))))
          iexact HS1
        · unfold owns; iexists _; isplitr
          swap; · iexact HS2
          ipureintro; exact (runA_ss c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _).trans (ssF_first m c t h0)
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · unfold owns; iexists _; isplitr
      swap; · iexact H5
      ipureintro; exact (runA_ro c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _).trans (roF_first m c t h0)
    isplitl [H6]
    · unfold owns; iexists _; isplitr
      swap; · iexact H6
      ipureintro; exact (runA_xc c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _).trans (xcF_first m c t h0)
    isplitl [H7]
    · unfold owns; iexists _; isplitr
      swap; · iexact H7
      ipureintro; exact (runA_xs c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _).trans (xsF_first m c t h0)
    isplitl [H8]
    · iexists d8; iexact H8
    · iexists d9; iexact H9

end Cert.Kernel.Own

end
-- ==== Proof.KSoundB.lean ====
/- The body's triple at one kind of point. -/
module

public import proofs.«01_k».proof.Proof.KData

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point between. -/
theorem sound_B (c : Dev nD) (t : Fin cfg0.N) (h0 : ¬t.val % 10 = 0) (h1 : ¬t.val % 10 = 9) :
    bodyPre m c t ⊢ wp frame (wpE (defs₀ (F := F)) Variants.none c none) Set.univ (bodyAt0 t) (fun _ => bodyPost m c t) := by
    have hN : t.val < 10 := lt_of_lt_of_eq t.isLt (show cfg0.N = 10 from N_0)
    unfold bodyPre bodyPost bodyAt0
    simp only [before0_0, before0_1, before0_2, before0_3, before0_4]
    rw [show (dats m 0 c).owesAt () t.succ = (dats m 0 c).owesAt () t.castSucc from rfl]
    rw [show (dats m 0 c).Φ t.succ = PhiS m c (t.val + 1) from rfl, PhiS_succ]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6 t (fun h => h0 ((hcond0_0 t).mp h))) (noFlush0_6 t (fun h => h1 ((hcond0_1 t).mp h)))]
    rw [Dat.leavesExact_idle (dats m 0 c) 7 t (idleAt0_7 t (fun h => h0 ((hcond0_0 t).mp h))) (noFlush0_7 t (fun h => h1 ((hcond0_1 t).mp h)))]
    rw [Dat.leavesExact_idle (dats m 0 c) 8 t (idleAt0_8 t (fun h => h1 ((hcond0_1 t).mp h))) (noFlush0_8 t (fun h => h1 ((hcond0_1 t).mp h)))]
    rw [Dat.leavesExact_idle (dats m 0 c) 9 t (idleAt0_9 t (fun h => h1 ((hcond0_1 t).mp h))) (noFlush0_9 t (fun h => h1 ((hcond0_1 t).mp h)))]
    simp only [before0_6 m c t h0, before0_7 m c t h0]
    have hz : t.val ≠ 0 := by omega
    rw [Phi_castSucc m c t, PhiS_pos m c _ hz]
    iintro ⟨⟨⟨HS0, ⟨%d12, %hd, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (xsF m c) (xqF m c) (ssF m c (t.val - 1))).2.2.2 _ _ _ d12 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, ⟨%e5, H5⟩, H6, H7, H8, H9, HS0, HS1, HS2⟩
    isplitl [HS0 HS1 HS2 Hg]
    · isplitl [HS0 HS1 HS2]
      · isplitl [HS0]
        · iexact HS0
        isplitl [HS1]
        · iapply (keep_intro c scM0_1 _ _ (fun d => ∀ y : S10x256x512.Idx, (y 0).val ≤ t.val → d y = rallF m c y) (fun y hy => (runB_keep c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (xsF m c) (xqF m c) (ssF m c (t.val - 1)) d12 y).trans (rall_step m c t d12 (fun y h => hd y (by omega)) y hy)))
          iexact HS1
        · unfold owns; iexists _; isplitr
          swap; · iexact HS2
          ipureintro; exact (runB_ss c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (xsF m c) (xqF m c) (ssF m c (t.val - 1)) _ _).trans (ssF_later m c t hz)
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · unfold owns; iexists _; isplitr
      swap; · iexact H5
      ipureintro; exact (runB_ro c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (xsF m c) (xqF m c) (ssF m c (t.val - 1)) _ _).trans (rfl)
    isplitl [H6]
    · iexists d6; iexact H6
    isplitl [H7]
    · iexists d7; iexact H7
    isplitl [H8]
    · iexists d8; iexact H8
    · iexists d9; iexact H9

end Cert.Kernel.Own

end
-- ==== Proof.KSoundC.lean ====
/- The body's triple at one kind of point. -/
module

public import proofs.«01_k».proof.Proof.KData

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last point. -/
theorem sound_C (c : Dev nD) (t : Fin cfg0.N) (h0 : ¬t.val % 10 = 0) (h1 : t.val % 10 = 9) :
    bodyPre m c t ⊢ wp frame (wpE (defs₀ (F := F)) Variants.none c none) Set.univ (bodyAt0 t) (fun _ => bodyPost m c t) := by
    have hN : t.val < 10 := lt_of_lt_of_eq t.isLt (show cfg0.N = 10 from N_0)
    unfold bodyPre bodyPost bodyAt0
    simp only [before0_0, before0_1, before0_2, before0_3, before0_4]
    rw [show (dats m 0 c).owesAt () t.succ = (dats m 0 c).owesAt () t.castSucc from rfl]
    rw [show (dats m 0 c).Φ t.succ = PhiS m c (t.val + 1) from rfl, PhiS_succ]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [idleAt0_6 t (fun h => h0 ((hcond0_0 t).mp h)), doFlush0_6 t ((hcond0_1 t).mpr h1)], after0_6]
    rw [show (dats m 0 c).leavesExact 7 t = owns (c : Thread nD τ) (ms0_7 t) fullShare ((dats m 0 c).after 7 t) from by
      unfold Dat.leavesExact; rw [idleAt0_7 t (fun h => h0 ((hcond0_0 t).mp h)), doFlush0_7 t ((hcond0_1 t).mpr h1)], after0_7]
    rw [show (dats m 0 c).leavesExact 8 t = owns (c : Thread nD τ) (ms0_8 t) fullShare ((dats m 0 c).after 8 t) from by
      unfold Dat.leavesExact; rw [liveAt0_8 t ((hcond0_1 t).mpr h1)], after0_8]
    rw [show (dats m 0 c).leavesExact 9 t = owns (c : Thread nD τ) (ms0_9 t) fullShare ((dats m 0 c).after 9 t) from by
      unfold Dat.leavesExact; rw [liveAt0_9 t ((hcond0_1 t).mpr h1)], after0_9]
    simp only [before0_6 m c t h0, before0_7 m c t h0]
    have hz : t.val ≠ 0 := by omega
    rw [Phi_castSucc m c t, PhiS_pos m c _ hz]
    iintro ⟨⟨⟨HS0, ⟨%d12, %hd, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runC c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1))).2.2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, ⟨%e5, H5⟩, H6, H7, ⟨%e8, H8⟩, ⟨%e9, H9⟩, HS0, HS1, HS2⟩
    isplitl [HS0 HS1 HS2 Hg]
    · isplitl [HS0 HS1 HS2]
      · isplitl [HS0]
        · iexact HS0
        isplitl [HS1]
        · iapply (keep_intro c scM0_1 _ _ (fun d => ∀ y : S10x256x512.Idx, (y 0).val ≤ t.val → d y = rallF m c y) (fun y hy => (runC_keep c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1)) y).trans (rall_step m c t d12 (fun y h => hd y (by omega)) y hy)))
          iexact HS1
        · unfold owns; iexists _; isplitr
          swap; · iexact HS2
          ipureintro; exact (runC_ss c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1)) _ _).trans (ssF_later m c t hz)
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · unfold owns; iexists _; isplitr
      swap; · iexact H5
      ipureintro; exact (runC_ro c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1)) _ _).trans (rfl)
    isplitl [H6]
    · iexact H6
    isplitl [H7]
    · iexact H7
    isplitl [H8]
    · unfold owns; iexists _; isplitr
      swap; · iexact H8
      ipureintro; exact (runC_yc c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1)) _ _).trans (congrArg₂ (fun s r => ycOf s r (iblk m c 4 t)) ((ssF_later m c t hz).trans (congrArg (ssF m c) (show t.val = 9 by omega))) (funext fun y => (runC_keep c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1)) y).trans (rall_step m c t d12 (fun y h => hd y (by omega)) y (by have := (y 0).isLt; have e : (S10x256x512.size 0) = 10 := rfl; omega))))
    · unfold owns; iexists _; isplitr
      swap; · iexact H9
      ipureintro; exact (runC_ys c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1)) _ _).trans (congrArg₂ (fun s r => ysOf s r (iblk m c 4 t)) ((ssF_later m c t hz).trans (congrArg (ssF m c) (show t.val = 9 by omega))) (funext fun y => (runC_keep c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1)) y).trans (rall_step m c t d12 (fun y h => hd y (by omega)) y (by have := (y 0).isLt; have e : (S10x256x512.size 0) = 10 := rfl; omega))))

end Cert.Kernel.Own

end
-- ==== Proof.KFrame.lean ====
/- The run of the whole kernel and its frame. -/
module

public import proofs.«01_k».proof.Proof.KSoundA
public import proofs.«01_k».proof.Proof.KSoundB
public import proofs.«01_k».proof.Proof.KSoundC

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 10 = 0
  · exact sound_A m c t h0 (by omega)
  · by_cases h1 : t.val % 10 = 9
    · exact sound_C m c t h0 h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the scratch buffers' named contents are forgotten. -/
theorem hout (c : Dev nD) : (dats m 0 c).Φ (Fin.last cfg0.N) ⊢ Pipeline.ΦA spec0 c := by
  rw [show (dats m 0 c).Φ (Fin.last cfg0.N) = PhiS m c cfg0.N from rfl, PhiS_pos m c _ (by rw [show cfg0.N = 10 from N_0]; decide), PhiA0_eq]
  iintro ⟨⟨HS0, ⟨%d, %hd, HS1⟩, HS2⟩, Hg⟩
  isplitl [HS0 HS1 HS2]
  · isplitl [HS0]
    · iexists _; iexact HS0
    isplitl [HS1]
    · iexists _; iexact HS1
    iexists _; iexact HS2
  iexact Hg

/-! ## The run and the frame -/

-- `θ_run_frame_track`'s implicit arguments are found by unifying its conclusion with this one, which takes unfolding plain
-- definitions in a metavariable's type
set_option backward.isDefEq.respectTransparency.types false in
/-- The run: every array of the pipeline ends at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- and every counter at zero: the frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Own

end
-- ==== Proof.KIRuns.lean ====
/- What the runs of the kernel body share: its two branch conditions in closed form over the grid points, where its
   windows are idle, and the names of its staging and scratch memrefs. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_1, k0_cond2, e0]
    word_cmp
   : ∀ t : Fin grid0.N, cond0_1 (grid0.coords t) ↔ t.val % 10 = 9)

/-! ## Where the windows are idle -/

/-- The inputs and the residual output are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
/-- Output 6 is live exactly at the first point. -/
theorem liveAt0_6 : ∀ t : Fin cfg0.N, cond0_0 (grid0.coords t) → cfg0.idle 6 (grid0.coords t) = false := by decide +kernel
theorem idleAt0_6 : ∀ t : Fin cfg0.N, ¬cond0_0 (grid0.coords t) → cfg0.idle 6 (grid0.coords t) = true := by decide +kernel
/-- It is written back at the last point only. -/
theorem noFlush0_6 : ∀ t : Fin cfg0.N, ¬cond0_1 (grid0.coords t) → (cfg0.win 6).flush t = false := by decide +kernel
theorem doFlush0_6 : ∀ t : Fin cfg0.N, cond0_1 (grid0.coords t) → (cfg0.win 6).flush t = true := by decide +kernel
/-- Output 7 is live exactly at the first point. -/
theorem liveAt0_7 : ∀ t : Fin cfg0.N, cond0_0 (grid0.coords t) → cfg0.idle 7 (grid0.coords t) = false := by decide +kernel
theorem idleAt0_7 : ∀ t : Fin cfg0.N, ¬cond0_0 (grid0.coords t) → cfg0.idle 7 (grid0.coords t) = true := by decide +kernel
/-- It is written back at the last point only. -/
theorem noFlush0_7 : ∀ t : Fin cfg0.N, ¬cond0_1 (grid0.coords t) → (cfg0.win 7).flush t = false := by decide +kernel
theorem doFlush0_7 : ∀ t : Fin cfg0.N, cond0_1 (grid0.coords t) → (cfg0.win 7).flush t = true := by decide +kernel
/-- Output 8 is live exactly at the last point. -/
theorem liveAt0_8 : ∀ t : Fin cfg0.N, cond0_1 (grid0.coords t) → cfg0.idle 8 (grid0.coords t) = false := by decide +kernel
theorem idleAt0_8 : ∀ t : Fin cfg0.N, ¬cond0_1 (grid0.coords t) → cfg0.idle 8 (grid0.coords t) = true := by decide +kernel
/-- It is written back at the last point only. -/
theorem noFlush0_8 : ∀ t : Fin cfg0.N, ¬cond0_1 (grid0.coords t) → (cfg0.win 8).flush t = false := by decide +kernel
theorem doFlush0_8 : ∀ t : Fin cfg0.N, cond0_1 (grid0.coords t) → (cfg0.win 8).flush t = true := by decide +kernel
/-- Output 9 is live exactly at the last point. -/
theorem liveAt0_9 : ∀ t : Fin cfg0.N, cond0_1 (grid0.coords t) → cfg0.idle 9 (grid0.coords t) = false := by decide +kernel
theorem idleAt0_9 : ∀ t : Fin cfg0.N, ¬cond0_1 (grid0.coords t) → cfg0.idle 9 (grid0.coords t) = true := by decide +kernel
/-- It is written back at the last point only. -/
theorem noFlush0_9 : ∀ t : Fin cfg0.N, ¬cond0_1 (grid0.coords t) → (cfg0.win 9).flush t = false := by decide +kernel
theorem doFlush0_9 : ∀ t : Fin cfg0.N, cond0_1 (grid0.coords t) → (cfg0.win 9).flush t = true := by decide +kernel

/-! ## The kernel body on any staging memrefs: a subtype the run finds -/

/-- One staging buffer of output window 5, through which its contents are stated (`View.read_writes_of_cover`: the
    choice does not matter). -/
abbrev VO0_5 : View sig .tc .vmem S256x512 .bf16 := (Memref.whole cc0_stg5_0 : Memref sig .tc .vmem S256x512 .bf16).view
/-- One staging buffer of output window 6, through which its contents are stated (`View.read_writes_of_cover`: the
    choice does not matter). -/
abbrev VO0_6 : View sig .tc .vmem S256x8192 .i8 := (Memref.whole cc0_stg6_0 : Memref sig .tc .vmem S256x8192 .i8).view
/-- One staging buffer of output window 7, through which its contents are stated (`View.read_writes_of_cover`: the
    choice does not matter). -/
abbrev VO0_7 : View sig .tc .vmem S256x1 .f32 := (Memref.whole cc0_stg7_0 : Memref sig .tc .vmem S256x1 .f32).view
/-- One staging buffer of output window 8, through which its contents are stated (`View.read_writes_of_cover`: the
    choice does not matter). -/
abbrev VO0_8 : View sig .tc .vmem S256x5120 .fp8e4m3 := (Memref.whole cc0_stg8_0 : Memref sig .tc .vmem S256x5120 .fp8e4m3).view
/-- One staging buffer of output window 9, through which its contents are stated (`View.read_writes_of_cover`: the
    choice does not matter). -/
abbrev VO0_9 : View sig .tc .vmem S256x1 .f32 := (Memref.whole cc0_stg9_0 : Memref sig .tc .vmem S256x1 .f32).view
/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5120 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8192 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x5120 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S256x8192 .bf16 := Memref.whole cc0_scratch0
abbrev scM0_1 : Memref sig .tc .vmem S10x256x512 .bf16 := Memref.whole cc0_scratch1
abbrev scM0_2 : Memref sig .tc .vmem S256x128 .f32 := Memref.whole cc0_scratch2
/-- The scratch `arg11` the kernel carries between points, as a view: what it holds is stated through it. -/
abbrev VS0_0 : View sig .tc .vmem S256x8192 .bf16 := scM0_0.view
/-- The scratch `arg12` the kernel carries between points, as a view: what it holds is stated through it. -/
abbrev VS0_1 : View sig .tc .vmem S10x256x512 .bf16 := scM0_1.view
/-- The scratch `arg13` the kernel carries between points, as a view: what it holds is stated through it. -/
abbrev VS0_2 : View sig .tc .vmem S256x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Own

end
-- ==== Proof.KIVals.lean ====
/- What the kernel body computes at each point, as functions of the blocks it reads. -/
module

public import proofs.«01_k».proof.Proof.KIRuns
public import Idealize.ShloMosaic.Lib.VecWindow
public import Idealize.ShloMosaic.Lib.Pointwise

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Row bands of 32 and column tiles of a block -/

/-- Band `k` of 32 rows of the activations. -/
def xRows (x : Vec F S256x8192 .bf16) (k : ℕ) : Vec F S32x8192 .bf16 :=
  fun z => x (ix2 (n0 := 256) (n1 := 8192) ⟨(32 * k + (z 0).val) % 256, Nat.mod_lt _ (by decide)⟩ (z 1))

/-- Columns `256 k`, …, `256 k + 255` of the weight scales. -/
def wsCols (ws : Vec F S1x512 .f32) (k : ℕ) : Vec F S1x256 .f32 :=
  fun z => ws (ix2 (n0 := 1) (n1 := 512) (z 0) ⟨(256 * k + (z 1).val) % 512, Nat.mod_lt _ (by decide)⟩)

/-- Columns `256 k`, …, `256 k + 255` of the residual. -/
def resCols (res : Vec F S256x512 .bf16) (k : ℕ) : Vec F S256x256 .bf16 :=
  fun z => res (ix2 (n0 := 256) (n1 := 512) (z 0) ⟨(256 * k + (z 1).val) % 512, Nat.mod_lt _ (by decide)⟩)

/-- Tile `k` of the kept residual sums. -/
def rTile (r : Vec F S10x256x512 .bf16) (k : ℕ) : Vec F S1x256x512 .bf16 :=
  fun z => r (ix3 (n0 := 10) (n1 := 256) (n2 := 512) ⟨k % 10, Nat.mod_lt _ (by decide)⟩ (z 1) (z 2))

/-- Columns `512 k`, …, `512 k + 511` of the norm's weights. -/
def gTile (g : Vec F S1x5120 .bf16) (k : ℕ) : Vec F S1x512 .bf16 :=
  fun z => g (ix2 (n0 := 1) (n1 := 5120) (z 0) ⟨(512 * k + (z 1).val) % 5120, Nat.mod_lt _ (by decide)⟩)

/-- A band's row, placed in the whole block. -/
abbrev inBand {W : ℕ} (y : (⟨2, ![256, W]⟩ : Shape).Idx) : (⟨2, ![32, W]⟩ : Shape).Idx :=
  ix2 (n0 := 32) (n1 := W) ⟨(y 0).val % 32, Nat.mod_lt _ (by decide)⟩ (y 1)

/-! ## What the first point computes from the activations -/

/-- The activations' scales, one for each row. -/
def xsOf (x : Vec F S256x8192 .bf16) : Vec F S256x1 .f32 := fun y => k0_pay5 (xRows x ((y 0).val / 32)) (inBand (W := 1) y)
/-- The activations' codes. -/
def xcOf (x : Vec F S256x8192 .bf16) : Vec F S256x8192 .i8 := fun y => k0_pay7 (xRows x ((y 0).val / 32)) (inBand (W := 8192) y)
/-- The activations' codes as floats. -/
def xqOf (x : Vec F S256x8192 .bf16) : Vec F S256x8192 .bf16 := fun y => k0_pay8 (xRows x ((y 0).val / 32)) (inBand (W := 8192) y)

/-! ## What each point computes -/

section Tile
variable (xs : Vec F S256x1 .f32) (xq : Vec F S256x8192 .bf16) (w : Vec F S8192x256 .i8) (ws : Vec F S1x512 .f32)
  (res : Vec F S256x512 .bf16) (ss : Vec F S256x128 .f32)

/-- The lane numbers. -/
abbrev lanes : IVec S256x128 32 := iota .tc S256x128 32 [1] iota_S256x128_d1_w32

/-- The first 256 columns of a point's tile of the residual sum. -/
def tLo : FVec F S256x256 .bf16 :=
  k0_pay90 (k0_pay83 xs) (k0_pay84 w xq) (k0_pay85 w xq) k0_pay86 (k0_pay88 w xq) k0_pay89 (wsCols ws 0) (resCols res 0)
/-- The last 256 columns. -/
def tHi : FVec F S256x256 .bf16 :=
  k0_pay97 (k0_pay83 xs) (k0_pay93 (k0_pay81 w xq)) (k0_pay94 (k0_pay82 w xq)) lanes k0_pay95 k0_pay96 (wsCols ws 1) (resCols res 1)
/-- A point's tile of the residual sum. -/
def roOf : Vec F S256x512 .bf16 := fun y =>
  if (y 1).val < 256 then tLo xs xq w ws res (ix2 (n0 := 256) (n1 := 256) (y 0) ⟨(y 1).val % 256, Nat.mod_lt _ (by decide)⟩)
  else tHi xs xq w ws res (ix2 (n0 := 256) (n1 := 256) (y 0) ⟨(y 1).val % 256, Nat.mod_lt _ (by decide)⟩)
/-- The sums of squares after the first half of a tile. -/
def ssLo : FVec F S256x128 .f32 :=
  k0_pay92 (k0_pay83 xs) (k0_pay84 w xq) (k0_pay85 w xq) k0_pay86 (k0_pay88 w xq) k0_pay89 (wsCols ws 0) (resCols res 0) ss
/-- The sums of squares after a tile. -/
def ssOf : FVec F S256x128 .f32 :=
  k0_pay1 (k0_pay99 (k0_pay83 xs) (k0_pay93 (k0_pay81 w xq)) (k0_pay94 (k0_pay82 w xq)) lanes k0_pay95 k0_pay96 (wsCols ws 1) (resCols res 1))
    (ssLo xs xq w ws res ss)
    (k0_pay100 (k0_pay83 xs) (k0_pay93 (k0_pay81 w xq)) (k0_pay94 (k0_pay82 w xq)) lanes k0_pay95 k0_pay96 (wsCols ws 1) (resCols res 1))
end Tile

/-! ## What the last point computes from the kept tiles -/

section Last
variable (ss : Vec F S256x128 .f32) (r : Vec F S10x256x512 .bf16) (g : Vec F S1x5120 .bf16)

/-- The reciprocal root of the mean square. -/
def invOf : FVec F S256x1 .f32 := k0_pay46 ss
/-- The largest absolute value of the normalised row over tiles 0 to 7. -/
def am7 : FVec F S256x1 .f32 :=
  k0_pay51 (invOf ss) (k0_pay49 (invOf ss) (k0_pay47 ss (rTile r 0) (gTile g 0) (rTile r 1) (gTile g 1)) (k0_pay48 (rTile r 2)) (gTile g 2)
    (rTile r 3) (gTile g 3) (rTile r 4) (gTile g 4)) (k0_pay50 (rTile r 5)) (gTile g 5) (rTile r 6) (gTile g 6) (rTile r 7) (gTile g 7)
/-- Whether a row is all zero. -/
def isZ : IVec S256x1 1 := k0_pay54 (invOf ss) (am7 ss r g) (k0_pay52 (rTile r 8)) (gTile g 8) (rTile r 9) (gTile g 9)
/-- The scale's exponent of a row that is not. -/
def expo : IVec S256x1 32 := k0_pay55 (invOf ss) (am7 ss r g) (k0_pay52 (rTile r 8)) (gTile g 8) (rTile r 9) (gTile g 9)
/-- The scales of the normalised rows. -/
def ysOf : Vec F S256x1 .f32 := k0_pay58 (isZ ss r g) (expo ss r g) k0_pay56
/-- Tile `k` of the codes. -/
def ycTile (k : ℕ) : FVec F S256x512 .fp8e4m3 :=
  k0_pay64 (invOf ss) (k0_pay59 (isZ ss r g) (expo ss r g) k0_pay56) (rTile r k) (gTile g k)
/-- The codes of the normalised rows. -/
def ycOf : Vec F S256x5120 .fp8e4m3 := fun y =>
  ycTile ss r g ((y 1).val / 512) (ix2 (n0 := 256) (n1 := 512) (y 0) ⟨(y 1).val % 512, Nat.mod_lt _ (by decide)⟩)
end Last

/-! ## Loads of bands and tiles -/

section Loads
variable {sp : Space}

theorem read_xRows (v : View sig .tc sp S256x8192 .bf16) (f : v.ty.Contents (Elt F)) (k o : ℕ) (ho : o = 32 * k) (hk : k < 8)
    (inb : ∀ a, ![o, 0] a + S32x8192.size a ≤ S256x8192.size a) :
    v.readAt (Elt F) (Rect.unit (s := S256x8192) ![o, 0] S32x8192.size inb).toLoadRect f = xRows (v.read (Elt F) f) k := by
  subst ho
  funext z
  refine congrArg (v.read (Elt F) f) (funext fun a => Fin.ext ?_)
  have h0 : (z 0).val < 32 := (z 0).isLt
  match a with
  | ⟨0, _⟩ => show 32 * k + 1 * (z 0).val = (32 * k + (z 0).val) % 256; omega
  | ⟨1, _⟩ => show 0 + 1 * (z 1).val = (z 1).val; omega

theorem read_wsCols (v : View sig .tc sp S1x512 .f32) (f : v.ty.Contents (Elt F)) (k o : ℕ) (ho : o = 256 * k) (hk : k < 2)
    (inb : ∀ a, ![0, o] a + S1x256.size a ≤ S1x512.size a) :
    v.readAt (Elt F) (Rect.unit (s := S1x512) ![0, o] S1x256.size inb).toLoadRect f = wsCols (v.read (Elt F) f) k := by
  subst ho
  funext z
  refine congrArg (v.read (Elt F) f) (funext fun a => Fin.ext ?_)
  have h0 : (z 1).val < 256 := (z 1).isLt
  match a with
  | ⟨0, _⟩ => show 0 + 1 * (z 0).val = (z 0).val; omega
  | ⟨1, _⟩ => show 256 * k + 1 * (z 1).val = (256 * k + (z 1).val) % 512; omega

theorem read_resCols (v : View sig .tc sp S256x512 .bf16) (f : v.ty.Contents (Elt F)) (k o : ℕ) (ho : o = 256 * k) (hk : k < 2)
    (inb : ∀ a, ![0, o] a + S256x256.size a ≤ S256x512.size a) :
    v.readAt (Elt F) (Rect.unit (s := S256x512) ![0, o] S256x256.size inb).toLoadRect f = resCols (v.read (Elt F) f) k := by
  subst ho
  funext z
  refine congrArg (v.read (Elt F) f) (funext fun a => Fin.ext ?_)
  have h0 : (z 1).val < 256 := (z 1).isLt
  match a with
  | ⟨0, _⟩ => show 0 + 1 * (z 0).val = (z 0).val; omega
  | ⟨1, _⟩ => show 256 * k + 1 * (z 1).val = (256 * k + (z 1).val) % 512; omega

theorem read_rTile (v : View sig .tc sp S10x256x512 .bf16) (f : v.ty.Contents (Elt F)) (k : ℕ) (hk : k < 10)
    (inb : ∀ a, ![k, 0, 0] a + S1x256x512.size a ≤ S10x256x512.size a) :
    v.readAt (Elt F) (Rect.unit (s := S10x256x512) ![k, 0, 0] S1x256x512.size inb).toLoadRect f = rTile (v.read (Elt F) f) k := by
  funext z
  refine congrArg (v.read (Elt F) f) (funext fun a => Fin.ext ?_)
  have h0 : (z 0).val < 1 := (z 0).isLt
  match a with
  | ⟨0, _⟩ => show k + 1 * (z 0).val = k % 10; omega
  | ⟨1, _⟩ => show 0 + 1 * (z 1).val = (z 1).val; omega
  | ⟨2, _⟩ => show 0 + 1 * (z 2).val = (z 2).val; omega

theorem read_gTile (v : View sig .tc sp S1x5120 .bf16) (f : v.ty.Contents (Elt F)) (k o : ℕ) (ho : o = 512 * k) (hk : k < 10)
    (inb : ∀ a, ![0, o] a + S1x512.size a ≤ S1x5120.size a) :
    v.readAt (Elt F) (Rect.unit (s := S1x5120) ![0, o] S1x512.size inb).toLoadRect f = gTile (v.read (Elt F) f) k := by
  subst ho
  funext z
  refine congrArg (v.read (Elt F) f) (funext fun a => Fin.ext ?_)
  have h0 : (z 1).val < 512 := (z 1).isLt
  match a with
  | ⟨0, _⟩ => show 0 + 1 * (z 0).val = (z 0).val; omega
  | ⟨1, _⟩ => show 512 * k + 1 * (z 1).val = (512 * k + (z 1).val) % 5120; omega

end Loads

/-! ## Stores of bands and tiles -/

/-- A function given band by band, at a band's place in the whole block. -/
theorem at_band {α : Type} {W : ℕ} (H : ℕ → (⟨2, ![32, W]⟩ : Shape).Idx → α) (k o : ℕ) (ho : o = 32 * k)
    (inb : ∀ a, ![o, 0] a + (⟨2, ![32, W]⟩ : Shape).size a ≤ (⟨2, ![256, W]⟩ : Shape).size a) (z : (⟨2, ![32, W]⟩ : Shape).Idx) :
    (fun y : (⟨2, ![256, W]⟩ : Shape).Idx => H ((y 0).val / 32) (inBand y)) ((Rect.unit (s := ⟨2, ![256, W]⟩) ![o, 0] (⟨2, ![32, W]⟩ : Shape).size inb).emb z)
      = H k z := by
  subst ho
  have h0 : (z 0).val < 32 := (z 0).isLt
  have e0 : ((Rect.unit (s := ⟨2, ![256, W]⟩) ![32 * k, 0] (⟨2, ![32, W]⟩ : Shape).size inb).emb z 0).val = 32 * k + 1 * (z 0).val := rfl
  have e1 : ((Rect.unit (s := ⟨2, ![256, W]⟩) ![32 * k, 0] (⟨2, ![32, W]⟩ : Shape).size inb).emb z 1).val = 0 + 1 * (z 1).val := rfl
  have hk : (32 * k + 1 * (z 0).val) / 32 = k := by omega
  have hz : inBand ((Rect.unit (s := ⟨2, ![256, W]⟩) ![32 * k, 0] (⟨2, ![32, W]⟩ : Shape).size inb).emb z) = z := by
    funext a
    match a with
    | ⟨0, _⟩ => exact Fin.ext (by show (32 * k + 1 * (z 0).val) % 32 = (z 0).val; omega)
    | ⟨1, _⟩ => exact Fin.ext (by show 0 + 1 * (z 1).val = (z 1).val; omega)
  show H (((Rect.unit (s := ⟨2, ![256, W]⟩) ![32 * k, 0] (⟨2, ![32, W]⟩ : Shape).size inb).emb z 0).val / 32) _ = _
  rw [hz, e0, hk]

/-- A function given by column tiles of width `W`, at a tile's place in the whole block. -/
theorem at_tile {α : Type} {n W N : ℕ} (H : ℕ → (⟨2, ![n, W]⟩ : Shape).Idx → α) (hW : 0 < W) (k o : ℕ) (ho : o = W * k)
    (inb : ∀ a, ![0, o] a + (⟨2, ![n, W]⟩ : Shape).size a ≤ (⟨2, ![n, N]⟩ : Shape).size a) (z : (⟨2, ![n, W]⟩ : Shape).Idx) :
    (fun y : (⟨2, ![n, N]⟩ : Shape).Idx => H ((y 1).val / W) (ix2 (n0 := n) (n1 := W) (y 0) ⟨(y 1).val % W, Nat.mod_lt _ hW⟩))
        ((Rect.unit (s := ⟨2, ![n, N]⟩) ![0, o] (⟨2, ![n, W]⟩ : Shape).size inb).emb z)
      = H k z := by
  subst ho
  have h1 : (z 1).val < W := (z 1).isLt
  have e1 : ((Rect.unit (s := ⟨2, ![n, N]⟩) ![0, W * k] (⟨2, ![n, W]⟩ : Shape).size inb).emb z 1).val = W * k + 1 * (z 1).val := rfl
  have hk : (W * k + 1 * (z 1).val) / W = k := by rw [Nat.one_mul, Nat.mul_add_div hW, Nat.div_eq_of_lt h1, Nat.add_zero]
  have hm : (W * k + 1 * (z 1).val) % W = (z 1).val := by rw [Nat.one_mul, Nat.mul_add_mod, Nat.mod_eq_of_lt h1]
  have hz : ix2 (n0 := n) (n1 := W) ((Rect.unit (s := ⟨2, ![n, N]⟩) ![0, W * k] (⟨2, ![n, W]⟩ : Shape).size inb).emb z 0)
      ⟨((Rect.unit (s := ⟨2, ![n, N]⟩) ![0, W * k] (⟨2, ![n, W]⟩ : Shape).size inb).emb z 1).val % W, Nat.mod_lt _ hW⟩ = z := by
    funext a
    match a with
    | ⟨0, _⟩ => exact Fin.ext (by show 0 + 1 * (z 0).val = (z 0).val; omega)
    | ⟨1, _⟩ => exact Fin.ext (by show (W * k + 1 * (z 1).val) % W = (z 1).val; exact hm)
  show H (((Rect.unit (s := ⟨2, ![n, N]⟩) ![0, W * k] (⟨2, ![n, W]⟩ : Shape).size inb).emb z 1).val / W) _ = _
  rw [hz, e1, hk]

/-- The two halves of a tile, as a function given by column tiles. -/
theorem roOf_eq (xs : Vec F S256x1 .f32) (xq : Vec F S256x8192 .bf16) (w : Vec F S8192x256 .i8) (ws : Vec F S1x512 .f32)
    (res : Vec F S256x512 .bf16) :
    roOf xs xq w ws res = fun y => (fun k z => if k = 0 then tLo xs xq w ws res z else tHi xs xq w ws res z) ((y 1).val / 256)
      (ix2 (n0 := 256) (n1 := 256) (y 0) ⟨(y 1).val % 256, Nat.mod_lt _ (by decide)⟩) := by
  funext y
  by_cases h : (y 1).val < 256
  · have : (y 1).val / 256 = 0 := by omega
    simp only [roOf, if_pos h, this, if_true]
  · have : ¬ (y 1).val / 256 = 0 := by omega
    simp only [roOf, if_neg h, this, if_false]

/-- Where a point's tile is kept. -/
theorem off1_eq (i : grid0.Coords) : k0_off1 i = ![(i 0).val, 0, 0] := by
  have h : (i 0).val < 10 := (i 0).isLt
  have e : (BitVec.ofNat 32 (i 0).val).toNat = (i 0).val := by rw [BitVec.toNat_ofNat]; omega
  funext a
  match a with
  | ⟨0, _⟩ => exact e
  | ⟨1, _⟩ => rfl
  | ⟨2, _⟩ => rfl
theorem off2_eq (i : grid0.Coords) : k0_off2 i = ![(i 0).val, 0, 256] := by
  have h : (i 0).val < 10 := (i 0).isLt
  have e : (BitVec.ofNat 32 (i 0).val).toNat = (i 0).val := by rw [BitVec.toNat_ofNat]; omega
  funext a
  match a with
  | ⟨0, _⟩ => exact e
  | ⟨1, _⟩ => rfl
  | ⟨2, _⟩ => rfl

end Cert.KernelIdeal.Own

end
-- ==== Proof.KITile.lean ====
/- The tile a point writes, whole and at its place among the kept tiles. -/
module

public import proofs.«01_k».proof.Proof.KIVals

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tile a point writes, whole and kept -/

/-- A two-piece store of a tile's halves reads as the tile. -/
theorem read_halves {sp : Space} (v : View sig .tc sp S256x512 .bf16) (f : v.ty.Contents (Elt F)) (xs : Vec F S256x1 .f32) (xq : Vec F S256x8192 .bf16) (w : Vec F S8192x256 .i8) (ws : Vec F S1x512 .f32)
    (res : Vec F S256x512 .bf16) :
    v.read (Elt F) (v.writes (Elt F) f [⟨Rect.unit (s := S256x512) ![0, 256] S256x256.size inb_S256x512_S256x256_0_256, tHi xs xq w ws res⟩,
      ⟨Rect.unit (s := S256x512) ![0, 0] S256x256.size inb_S256x512_S256x256_0_0, tLo xs xq w ws res⟩]) = roOf xs xq w ws res := by
  funext y
  refine View.read_writes_apply_of_pieces v f (roOf xs xq w ws res) _ ?_ y (View.cover_of_tiledL (s := S256x512) _ S256x256.size (by sl_kernel_rfl) y)
  rw [roOf_eq]
  simp only [List.forall_mem_cons, List.not_mem_nil, false_imp_iff, implies_true, and_true]
  exact ⟨fun z => (at_tile (n := 256) (W := 256) (N := 512) (fun k z => if k = 0 then tLo xs xq w ws res z else tHi xs xq w ws res z) (by decide) 1 256 rfl inb_S256x512_S256x256_0_256 z).symm,
    fun z => (at_tile (n := 256) (W := 256) (N := 512) (fun k z => if k = 0 then tLo xs xq w ws res z else tHi xs xq w ws res z) (by decide) 0 0 rfl inb_S256x512_S256x256_0_0 z).symm⟩

/-- Keeping a tile's halves at the point's place replaces that place's tile and nothing else. -/
theorem read_keep {sp : Space} (v : View sig .tc sp S10x256x512 .bf16) (f : v.ty.Contents (Elt F)) (i : grid0.Coords) (xs : Vec F S256x1 .f32) (xq : Vec F S256x8192 .bf16) (w : Vec F S8192x256 .i8) (ws : Vec F S1x512 .f32)
    (res : Vec F S256x512 .bf16) (y : S10x256x512.Idx) :
    v.read (Elt F) (v.writes (Elt F) f [⟨Rect.unit (s := S10x256x512) (k0_off2 i) S1x256x256.size (k0_off2_inb i), shapeCast S1x256x256 (tHi xs xq w ws res) shapeCasts_S256x256_S1x256x256⟩,
      ⟨Rect.unit (s := S10x256x512) (k0_off1 i) S1x256x256.size (k0_off1_inb i), shapeCast S1x256x256 (tLo xs xq w ws res) shapeCasts_S256x256_S1x256x256⟩]) y
      = if (y 0).val = (i 0).val then roOf xs xq w ws res (ix2 (n0 := 256) (n1 := 512) (y 1) (y 2)) else v.read (Elt F) f y := by
  have h2 : (y 2).val < 512 := (y 2).isLt
  have cast : ∀ (T : FVec F S256x256 .bf16) (z : S1x256x256.Idx), shapeCast S1x256x256 T shapeCasts_S256x256_S1x256x256 z
      = T (ix2 (n0 := 256) (n1 := 256) (z 1) (z 2)) := fun T z => by
    show shapeCast S1x256x256 T _ z = _
    simp only [pointwise]
    done
  split
  · next h =>
    by_cases hc : (y 2).val < 256
    · rw [View.read_writes_cons_unit_of_not_mem v f (size := S1x256x256.size) (k0_off2_inb i) _ _ y (off2_eq i) (2 : Fin 3) (Or.inl (by show (y 2).val < 256; exact hc)),
        View.read_writes_cons_unit_of_mem v f (size := S1x256x256.size) (k0_off1_inb i) _ _ y (ix3 (n0 := 1) (n1 := 256) (n2 := 256) 0 (y 1) ⟨(y 2).val % 256, Nat.mod_lt _ (by decide)⟩) (off1_eq i) ?_]
      · rw [cast]; simp only [roOf]; rw [if_pos (by exact hc)]; rfl
      · intro a
        match a with
        | ⟨0, _⟩ => show (y 0).val = (i 0).val + 0; omega
        | ⟨1, _⟩ => show (y 1).val = 0 + (y 1).val; omega
        | ⟨2, _⟩ => show (y 2).val = 0 + (y 2).val % 256; omega
    · rw [View.read_writes_cons_unit_of_mem v f (size := S1x256x256.size) (k0_off2_inb i) _ _ y (ix3 (n0 := 1) (n1 := 256) (n2 := 256) 0 (y 1) ⟨(y 2).val % 256, Nat.mod_lt _ (by decide)⟩) (off2_eq i) ?_]
      · rw [cast]; simp only [roOf]; rw [if_neg (by exact hc)]; rfl
      · intro a
        match a with
        | ⟨0, _⟩ => show (y 0).val = (i 0).val + 0; omega
        | ⟨1, _⟩ => show (y 1).val = 0 + (y 1).val; omega
        | ⟨2, _⟩ => show (y 2).val = 256 + (y 2).val % 256; omega
  · next h =>
    have hne : (y 0).val < (i 0).val ∨ (i 0).val + 1 ≤ (y 0).val := by omega
    rw [View.read_writes_cons_unit_of_not_mem v f (size := S1x256x256.size) (k0_off2_inb i) _ _ y (off2_eq i) (0 : Fin 3) hne,
      View.read_writes_cons_unit_of_not_mem v f (size := S1x256x256.size) (k0_off1_inb i) _ _ y (off1_eq i) (0 : Fin 3) hne]
    rfl

end Cert.KernelIdeal.Own

end
-- ==== Proof.KIBands.lean ====
/- Eight bands of 32 rows, stored one by one, read as the whole block. -/
module

public import proofs.«01_k».proof.Proof.KITile

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Eight bands of rows, stored one by one, are the whole block's. -/
theorem bands_xs {sp : Space} (v : View sig .tc sp S256x1 .f32) (f : v.ty.Contents (Elt F)) (x : Vec F S256x8192 .bf16) :
    v.read (Elt F) (v.writes (Elt F) f [⟨Rect.unit (s := S256x1) ![224, 0] S32x1.size inb_S256x1_S32x1_224_0, k0_pay5 (xRows x 7)⟩, ⟨Rect.unit (s := S256x1) ![192, 0] S32x1.size inb_S256x1_S32x1_192_0, k0_pay5 (xRows x 6)⟩, ⟨Rect.unit (s := S256x1) ![160, 0] S32x1.size inb_S256x1_S32x1_160_0, k0_pay5 (xRows x 5)⟩, ⟨Rect.unit (s := S256x1) ![128, 0] S32x1.size inb_S256x1_S32x1_128_0, k0_pay5 (xRows x 4)⟩, ⟨Rect.unit (s := S256x1) ![96, 0] S32x1.size inb_S256x1_S32x1_96_0, k0_pay5 (xRows x 3)⟩, ⟨Rect.unit (s := S256x1) ![64, 0] S32x1.size inb_S256x1_S32x1_64_0, k0_pay5 (xRows x 2)⟩, ⟨Rect.unit (s := S256x1) ![32, 0] S32x1.size inb_S256x1_S32x1_32_0, k0_pay5 (xRows x 1)⟩, ⟨Rect.unit (s := S256x1) ![0, 0] S32x1.size inb_S256x1_S32x1_0_0, k0_pay5 (xRows x 0)⟩]) = xsOf x := by
  funext y
  refine View.read_writes_apply_of_pieces v f (xsOf x) _ ?_ y (View.cover_of_tiledL (s := S256x1) _ S32x1.size (by sl_kernel_rfl) y)
  simp only [List.forall_mem_cons, List.not_mem_nil, false_imp_iff, implies_true, and_true]
  exact ⟨fun z => (at_band (W := 1) (fun k => k0_pay5 (xRows x k)) 7 224 rfl inb_S256x1_S32x1_224_0 z).symm,
    fun z => (at_band (W := 1) (fun k => k0_pay5 (xRows x k)) 6 192 rfl inb_S256x1_S32x1_192_0 z).symm,
    fun z => (at_band (W := 1) (fun k => k0_pay5 (xRows x k)) 5 160 rfl inb_S256x1_S32x1_160_0 z).symm,
    fun z => (at_band (W := 1) (fun k => k0_pay5 (xRows x k)) 4 128 rfl inb_S256x1_S32x1_128_0 z).symm,
    fun z => (at_band (W := 1) (fun k => k0_pay5 (xRows x k)) 3 96 rfl inb_S256x1_S32x1_96_0 z).symm,
    fun z => (at_band (W := 1) (fun k => k0_pay5 (xRows x k)) 2 64 rfl inb_S256x1_S32x1_64_0 z).symm,
    fun z => (at_band (W := 1) (fun k => k0_pay5 (xRows x k)) 1 32 rfl inb_S256x1_S32x1_32_0 z).symm,
    fun z => (at_band (W := 1) (fun k => k0_pay5 (xRows x k)) 0 0 rfl inb_S256x1_S32x1_0_0 z).symm⟩

/-- Eight bands of rows, stored one by one, are the whole block's. -/
theorem bands_xc {sp : Space} (v : View sig .tc sp S256x8192 .i8) (f : v.ty.Contents (Elt F)) (x : Vec F S256x8192 .bf16) :
    v.read (Elt F) (v.writes (Elt F) f [⟨Rect.unit (s := S256x8192) ![224, 0] S32x8192.size inb_S256x8192_S32x8192_224_0, k0_pay7 (xRows x 7)⟩, ⟨Rect.unit (s := S256x8192) ![192, 0] S32x8192.size inb_S256x8192_S32x8192_192_0, k0_pay7 (xRows x 6)⟩, ⟨Rect.unit (s := S256x8192) ![160, 0] S32x8192.size inb_S256x8192_S32x8192_160_0, k0_pay7 (xRows x 5)⟩, ⟨Rect.unit (s := S256x8192) ![128, 0] S32x8192.size inb_S256x8192_S32x8192_128_0, k0_pay7 (xRows x 4)⟩, ⟨Rect.unit (s := S256x8192) ![96, 0] S32x8192.size inb_S256x8192_S32x8192_96_0, k0_pay7 (xRows x 3)⟩, ⟨Rect.unit (s := S256x8192) ![64, 0] S32x8192.size inb_S256x8192_S32x8192_64_0, k0_pay7 (xRows x 2)⟩, ⟨Rect.unit (s := S256x8192) ![32, 0] S32x8192.size inb_S256x8192_S32x8192_32_0, k0_pay7 (xRows x 1)⟩, ⟨Rect.unit (s := S256x8192) ![0, 0] S32x8192.size inb_S256x8192_S32x8192_0_0, k0_pay7 (xRows x 0)⟩]) = xcOf x := by
  funext y
  refine View.read_writes_apply_of_pieces v f (xcOf x) _ ?_ y (View.cover_of_tiledL (s := S256x8192) _ S32x8192.size (by sl_kernel_rfl) y)
  simp only [List.forall_mem_cons, List.not_mem_nil, false_imp_iff, implies_true, and_true]
  exact ⟨fun z => (at_band (W := 8192) (fun k => k0_pay7 (xRows x k)) 7 224 rfl inb_S256x8192_S32x8192_224_0 z).symm,
    fun z => (at_band (W := 8192) (fun k => k0_pay7 (xRows x k)) 6 192 rfl inb_S256x8192_S32x8192_192_0 z).symm,
    fun z => (at_band (W := 8192) (fun k => k0_pay7 (xRows x k)) 5 160 rfl inb_S256x8192_S32x8192_160_0 z).symm,
    fun z => (at_band (W := 8192) (fun k => k0_pay7 (xRows x k)) 4 128 rfl inb_S256x8192_S32x8192_128_0 z).symm,
    fun z => (at_band (W := 8192) (fun k => k0_pay7 (xRows x k)) 3 96 rfl inb_S256x8192_S32x8192_96_0 z).symm,
    fun z => (at_band (W := 8192) (fun k => k0_pay7 (xRows x k)) 2 64 rfl inb_S256x8192_S32x8192_64_0 z).symm,
    fun z => (at_band (W := 8192) (fun k => k0_pay7 (xRows x k)) 1 32 rfl inb_S256x8192_S32x8192_32_0 z).symm,
    fun z => (at_band (W := 8192) (fun k => k0_pay7 (xRows x k)) 0 0 rfl inb_S256x8192_S32x8192_0_0 z).symm⟩

/-- Eight bands of rows, stored one by one, are the whole block's. -/
theorem bands_xq {sp : Space} (v : View sig .tc sp S256x8192 .bf16) (f : v.ty.Contents (Elt F)) (x : Vec F S256x8192 .bf16) :
    v.read (Elt F) (v.writes (Elt F) f [⟨Rect.unit (s := S256x8192) ![224, 0] S32x8192.size inb_S256x8192_S32x8192_224_0, k0_pay8 (xRows x 7)⟩, ⟨Rect.unit (s := S256x8192) ![192, 0] S32x8192.size inb_S256x8192_S32x8192_192_0, k0_pay8 (xRows x 6)⟩, ⟨Rect.unit (s := S256x8192) ![160, 0] S32x8192.size inb_S256x8192_S32x8192_160_0, k0_pay8 (xRows x 5)⟩, ⟨Rect.unit (s := S256x8192) ![128, 0] S32x8192.size inb_S256x8192_S32x8192_128_0, k0_pay8 (xRows x 4)⟩, ⟨Rect.unit (s := S256x8192) ![96, 0] S32x8192.size inb_S256x8192_S32x8192_96_0, k0_pay8 (xRows x 3)⟩, ⟨Rect.unit (s := S256x8192) ![64, 0] S32x8192.size inb_S256x8192_S32x8192_64_0, k0_pay8 (xRows x 2)⟩, ⟨Rect.unit (s := S256x8192) ![32, 0] S32x8192.size inb_S256x8192_S32x8192_32_0, k0_pay8 (xRows x 1)⟩, ⟨Rect.unit (s := S256x8192) ![0, 0] S32x8192.size inb_S256x8192_S32x8192_0_0, k0_pay8 (xRows x 0)⟩]) = xqOf x := by
  funext y
  refine View.read_writes_apply_of_pieces v f (xqOf x) _ ?_ y (View.cover_of_tiledL (s := S256x8192) _ S32x8192.size (by sl_kernel_rfl) y)
  simp only [List.forall_mem_cons, List.not_mem_nil, false_imp_iff, implies_true, and_true]
  exact ⟨fun z => (at_band (W := 8192) (fun k => k0_pay8 (xRows x k)) 7 224 rfl inb_S256x8192_S32x8192_224_0 z).symm,
    fun z => (at_band (W := 8192) (fun k => k0_pay8 (xRows x k)) 6 192 rfl inb_S256x8192_S32x8192_192_0 z).symm,
    fun z => (at_band (W := 8192) (fun k => k0_pay8 (xRows x k)) 5 160 rfl inb_S256x8192_S32x8192_160_0 z).symm,
    fun z => (at_band (W := 8192) (fun k => k0_pay8 (xRows x k)) 4 128 rfl inb_S256x8192_S32x8192_128_0 z).symm,
    fun z => (at_band (W := 8192) (fun k => k0_pay8 (xRows x k)) 3 96 rfl inb_S256x8192_S32x8192_96_0 z).symm,
    fun z => (at_band (W := 8192) (fun k => k0_pay8 (xRows x k)) 2 64 rfl inb_S256x8192_S32x8192_64_0 z).symm,
    fun z => (at_band (W := 8192) (fun k => k0_pay8 (xRows x k)) 1 32 rfl inb_S256x8192_S32x8192_32_0 z).symm,
    fun z => (at_band (W := 8192) (fun k => k0_pay8 (xRows x k)) 0 0 rfl inb_S256x8192_S32x8192_0_0 z).symm⟩

end Cert.KernelIdeal.Own

end
-- ==== Proof.KIRunA.lean ====
/- The run of the kernel body at the first point: the activations are quantised into the two outputs and the scratch, the sum of squares starts at zero, and the first tile is done. -/
module

public import proofs.«01_k».proof.Proof.KIRuns

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each buffer at the first point: the activations are quantised into the two outputs and the scratch, the sum of squares starts at zero, and the first tile is done. The pieces are found by the run, which is the proof that
    the body leaves them: the inputs' buffers hold `x1`–`x5`, a buffer this case stores nothing into is handed back as found. -/
noncomputable def runA (c : Dev nD) (i : grid0.Coords) (arg1 : Memref sig .tc .vmem S256x8192 .bf16) (harg1 : arg1.IsWhole) (arg2 : Memref sig .tc .vmem S8192x256 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x5120 .bf16) (harg5 : arg5.IsWhole) (arg6 : Memref sig .tc .vmem S256x512 .bf16) (harg6 : arg6.IsWhole) (arg7 : Memref sig .tc .vmem S256x8192 .i8) (harg7 : arg7.IsWhole) (arg8 : Memref sig .tc .vmem S256x1 .f32) (harg8 : arg8.IsWhole) (arg9 : Memref sig .tc .vmem S256x5120 .fp8e4m3) (harg9 : arg9.IsWhole) (arg10 : Memref sig .tc .vmem S256x1 .f32) (harg10 : arg10.IsWhole) (arg11 : Memref sig .tc .vmem S256x8192 .bf16) (harg11 : arg11.IsWhole) (arg12 : Memref sig .tc .vmem S10x256x512 .bf16) (harg12 : arg12.IsWhole) (arg13 : Memref sig .tc .vmem S256x128 .f32) (harg13 : arg13.IsWhole) (hc0 : cond0_0 i) (hc1 : ¬cond0_1 i)
    (x1 : Vec F S256x8192 .bf16) (x2 : Vec F S8192x256 .i8) (x3 : Vec F S1x512 .f32) (x4 : Vec F S256x512 .bf16) (x5 : Vec F S1x5120 .bf16) :
    Σ' (L6 : List (View.Piece (Elt F) S256x512 .bf16)), Σ' (L7 : List (View.Piece (Elt F) S256x8192 .i8)), Σ' (L8 : List (View.Piece (Elt F) S256x1 .f32)), Σ' (L11 : List (View.Piece (Elt F) S256x8192 .bf16)), Σ' (L12 : List (View.Piece (Elt F) S10x256x512 .bf16)), { L13 : List (View.Piece (Elt F) S256x128 .f32) //
      ∀ (x9 : Vec F S256x5120 .fp8e4m3) (x10 : Vec F S256x1 .f32) (x12 : Vec F S10x256x512 .bf16) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x9 ∗ owns (c : Thread nD τ) arg10 fullShare x10 ∗ (∃ d, owns (c : Thread nD τ) arg11 fullShare d) ∗ owns (c : Thread nD τ) arg12 fullShare x12 ∗ (∃ d, owns (c : Thread nD τ) arg13 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread x12) L12) ∗ (∃ f, arg13.view.loc (c : Thread nD τ) ↦[arg13.view.set]{fullShare} arg13.view.writes (Elt F) f L13)) -∗ K ⟨⟩))
          ⊢ wp frame (wpE (defs₀ (F := F)) Variants.none c none) E (cc0_w4a8_oproj i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun x9 x10 x12 E K => ?run⟩
  case run =>
    simp only [cc0_w4a8_oproj_eq_skeleton]; unfold cc0_w4a8_oproj_skel
    simp only [k0_part15_eq_skeleton, k0_part1_eq_skeleton, k0_part2_eq_skeleton, k0_part3_eq_skeleton, k0_part4_eq_skeleton, k0_part5_eq_skeleton, k0_part6_eq_skeleton, k0_part16_eq_skeleton, k0_part17_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%d11, %f11, -, H11⟩, ⟨%f12, %hf12, H12⟩, ⟨%d13, %f13, -, H13⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg12.eq_unread hf12
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists f6; iexact H6
    isplitl [H7]
    · iexists f7; iexact H7
    isplitl [H8]
    · iexists f8; iexact H8
    isplitl [H9]
    · iexists _; isplitr; · ipureintro; exact harg9.read_unread _
      iexact H9
    isplitl [H10]
    · iexists _; isplitr; · ipureintro; exact harg10.read_unread _
      iexact H10
    isplitl [H11]
    · iexists f11; iexact H11
    isplitl [H12]
    · iexact H12
    iexists f13; iexact H13

end Cert.KernelIdeal.Own

end
-- ==== Proof.KIOutA.lean ====
/- What the first point leaves, as functions of the blocks it reads. -/
module

public import proofs.«01_k».proof.Proof.KIBands
public import proofs.«01_k».proof.Proof.KIRunA
public import Idealize.ShloMosaic.Lib.Tactic.RunNames

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords) (arg1 : Memref sig .tc .vmem S256x8192 .bf16) (harg1 : arg1.IsWhole) (arg2 : Memref sig .tc .vmem S8192x256 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x5120 .bf16) (harg5 : arg5.IsWhole) (arg6 : Memref sig .tc .vmem S256x512 .bf16) (harg6 : arg6.IsWhole) (arg7 : Memref sig .tc .vmem S256x8192 .i8) (harg7 : arg7.IsWhole) (arg8 : Memref sig .tc .vmem S256x1 .f32) (harg8 : arg8.IsWhole) (arg9 : Memref sig .tc .vmem S256x5120 .fp8e4m3) (harg9 : arg9.IsWhole) (arg10 : Memref sig .tc .vmem S256x1 .f32) (harg10 : arg10.IsWhole) (arg11 : Memref sig .tc .vmem S256x8192 .bf16) (harg11 : arg11.IsWhole) (arg12 : Memref sig .tc .vmem S10x256x512 .bf16) (harg12 : arg12.IsWhole) (arg13 : Memref sig .tc .vmem S256x128 .f32) (harg13 : arg13.IsWhole)
  (hc0 : cond0_0 i) (hc1 : ¬cond0_1 i)
  (x1 : Vec F S256x8192 .bf16) (x2 : Vec F S8192x256 .i8) (x3 : Vec F S1x512 .f32) (x4 : Vec F S256x512 .bf16) (x5 : Vec F S1x5120 .bf16)

/-- The scales. -/
theorem runA_xs {sp : Space} (v : View sig .tc sp S256x1 .f32) (f : v.ty.Contents (Elt F)) :
    v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5).2.2.1) = xsOf x1 := by
  dsimp only [runA]
  sl_unfold_run_names
  rw [read_xRows _ _ 0 0 rfl (by decide), read_xRows _ _ 1 32 rfl (by decide), read_xRows _ _ 2 64 rfl (by decide), read_xRows _ _ 3 96 rfl (by decide), read_xRows _ _ 4 128 rfl (by decide), read_xRows _ _ 5 160 rfl (by decide), read_xRows _ _ 6 192 rfl (by decide), read_xRows _ _ 7 224 rfl (by decide), harg1.read_unread]
  exact bands_xs v f x1

/-- The codes. -/
theorem runA_xc {sp : Space} (v : View sig .tc sp S256x8192 .i8) (f : v.ty.Contents (Elt F)) :
    v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5).2.1) = xcOf x1 := by
  dsimp only [runA]
  sl_unfold_run_names
  rw [read_xRows _ _ 0 0 rfl (by decide), read_xRows _ _ 1 32 rfl (by decide), read_xRows _ _ 2 64 rfl (by decide), read_xRows _ _ 3 96 rfl (by decide), read_xRows _ _ 4 128 rfl (by decide), read_xRows _ _ 5 160 rfl (by decide), read_xRows _ _ 6 192 rfl (by decide), read_xRows _ _ 7 224 rfl (by decide), harg1.read_unread]
  exact bands_xc v f x1

/-- The codes as floats. -/
theorem runA_xq {sp : Space} (v : View sig .tc sp S256x8192 .bf16) (f : v.ty.Contents (Elt F)) :
    v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5).2.2.2.1) = xqOf x1 := by
  dsimp only [runA]
  sl_unfold_run_names
  rw [read_xRows _ _ 0 0 rfl (by decide), read_xRows _ _ 1 32 rfl (by decide), read_xRows _ _ 2 64 rfl (by decide), read_xRows _ _ 3 96 rfl (by decide), read_xRows _ _ 4 128 rfl (by decide), read_xRows _ _ 5 160 rfl (by decide), read_xRows _ _ 6 192 rfl (by decide), read_xRows _ _ 7 224 rfl (by decide), harg1.read_unread]
  exact bands_xq v f x1

/-- The scales as the tile reads them back. -/
theorem cov_xs (inb : ∀ a, ![0, 0] a + S256x1.size a ≤ S256x1.size a) :
    arg8.view.readCov (runA.sl.H8_8 c arg1 harg1 x1) (Rect.unit (s := S256x1) ![0, 0] S256x1.size inb).toLoadRect = xsOf x1 := by
  show arg8.view.readAt (Elt F) _ (arg8.view.writes (Elt F) arg8.view.junk _) = _
  rw [View.readAt_full]
  sl_unfold_run_names
  rw [read_xRows _ _ 0 0 rfl (by decide), read_xRows _ _ 1 32 rfl (by decide), read_xRows _ _ 2 64 rfl (by decide), read_xRows _ _ 3 96 rfl (by decide), read_xRows _ _ 4 128 rfl (by decide), read_xRows _ _ 5 160 rfl (by decide), read_xRows _ _ 6 192 rfl (by decide), read_xRows _ _ 7 224 rfl (by decide), harg1.read_unread]
  exact bands_xs arg8.view _ x1

/-- The codes as the tile reads them back. -/
theorem cov_xq (inb : ∀ a, ![0, 0] a + S256x8192.size a ≤ S256x8192.size a) :
    arg11.view.readCov (runA.sl.H11_8 c arg1 harg1 x1) (Rect.unit (s := S256x8192) ![0, 0] S256x8192.size inb).toLoadRect = xqOf x1 := by
  show arg11.view.readAt (Elt F) _ (arg11.view.writes (Elt F) arg11.view.junk _) = _
  rw [View.readAt_full]
  sl_unfold_run_names
  rw [read_xRows _ _ 0 0 rfl (by decide), read_xRows _ _ 1 32 rfl (by decide), read_xRows _ _ 2 64 rfl (by decide), read_xRows _ _ 3 96 rfl (by decide), read_xRows _ _ 4 128 rfl (by decide), read_xRows _ _ 5 160 rfl (by decide), read_xRows _ _ 6 192 rfl (by decide), read_xRows _ _ 7 224 rfl (by decide), harg1.read_unread]
  exact bands_xq arg11.view _ x1

/-- The tile. -/
theorem runA_ro {sp : Space} (v : View sig .tc sp S256x512 .bf16) (f : v.ty.Contents (Elt F)) :
    v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5).1) = roOf (xsOf x1) (xqOf x1) x2 x3 x4 := by
  rw [← read_halves v f]
  dsimp only [runA]
  sl_unfold_run_values
  rw [cov_xs, cov_xq, View.readAt_full, harg2.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The tile at its place among the kept ones. -/
theorem runA_keep (x12 : Vec F S10x256x512 .bf16) (y : S10x256x512.Idx) :
    arg12.view.read (Elt F) (arg12.view.writes (Elt F) (harg12.unread x12) (runA c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5).2.2.2.2.1) y
      = if (y 0).val = (i 0).val then roOf (xsOf x1) (xqOf x1) x2 x3 x4 (ix2 (n0 := 256) (n1 := 512) (y 1) (y 2)) else x12 y := by
  have e := read_keep arg12.view (harg12.unread x12) i (xsOf x1) (xqOf x1) x2 x3 x4 y
  rw [harg12.read_unread] at e
  rw [← e]
  dsimp only [runA]
  sl_unfold_run_values
  rw [cov_xs, cov_xq, View.readAt_full, harg2.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The sums of squares. -/
theorem runA_ss {sp : Space} (v : View sig .tc sp S256x128 .f32) (f : v.ty.Contents (Elt F)) :
    v.read (Elt F) (v.writes (Elt F) f (runA c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5).2.2.2.2.2.1) = ssOf (xsOf x1) (xqOf x1) x2 x3 x4 k0_pay3 := by
  dsimp only [runA]
  sl_unfold_run_values
  rw [View.read_writes_full, cov_xs, cov_xq]
  (try unfold runA.sl.H13_2); (try unfold runA.sl.H13_1)
  rw [View.readCov_full]
  sl_unfold_run_values
  rw [cov_xs, cov_xq, View.readAt_full, harg2.read_unread,
    read_wsCols _ _ 0 0 rfl (by decide), read_wsCols _ _ 1 256 rfl (by decide), read_resCols _ _ 0 0 rfl (by decide), read_resCols _ _ 1 256 rfl (by decide),
    harg3.read_unread, harg4.read_unread]
  unfold runA.sl.H13_1
  rw [View.readCov_full]
  rfl

end Cert.KernelIdeal.Own

end
-- ==== Proof.KIRunB.lean ====
/- The run of the kernel body at a point between the first and the last: one tile. -/
module

public import proofs.«01_k».proof.Proof.KIRuns

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each buffer at a point between the first and the last: one tile. The pieces are found by the run, which is the proof that
    the body leaves them: the inputs' buffers hold `x1`–`x5`, a buffer this case stores nothing into is handed back as found. -/
noncomputable def runB (c : Dev nD) (i : grid0.Coords) (arg1 : Memref sig .tc .vmem S256x8192 .bf16) (harg1 : arg1.IsWhole) (arg2 : Memref sig .tc .vmem S8192x256 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x5120 .bf16) (harg5 : arg5.IsWhole) (arg6 : Memref sig .tc .vmem S256x512 .bf16) (harg6 : arg6.IsWhole) (arg7 : Memref sig .tc .vmem S256x8192 .i8) (harg7 : arg7.IsWhole) (arg8 : Memref sig .tc .vmem S256x1 .f32) (harg8 : arg8.IsWhole) (arg9 : Memref sig .tc .vmem S256x5120 .fp8e4m3) (harg9 : arg9.IsWhole) (arg10 : Memref sig .tc .vmem S256x1 .f32) (harg10 : arg10.IsWhole) (arg11 : Memref sig .tc .vmem S256x8192 .bf16) (harg11 : arg11.IsWhole) (arg12 : Memref sig .tc .vmem S10x256x512 .bf16) (harg12 : arg12.IsWhole) (arg13 : Memref sig .tc .vmem S256x128 .f32) (harg13 : arg13.IsWhole) (hc0 : ¬cond0_0 i) (hc1 : ¬cond0_1 i)
    (x1 : Vec F S256x8192 .bf16) (x2 : Vec F S8192x256 .i8) (x3 : Vec F S1x512 .f32) (x4 : Vec F S256x512 .bf16) (x5 : Vec F S1x5120 .bf16) (x8 : Vec F S256x1 .f32) (x11 : Vec F S256x8192 .bf16) (x13 : Vec F S256x128 .f32) :
    Σ' (L6 : List (View.Piece (Elt F) S256x512 .bf16)), Σ' (L12 : List (View.Piece (Elt F) S10x256x512 .bf16)), { L13 : List (View.Piece (Elt F) S256x128 .f32) //
      ∀ (x7 : Vec F S256x8192 .i8) (x9 : Vec F S256x5120 .fp8e4m3) (x10 : Vec F S256x1 .f32) (x12 : Vec F S10x256x512 .bf16) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13)) -∗ K ⟨⟩))
          ⊢ wp frame (wpE (defs₀ (F := F)) Variants.none c none) E (cc0_w4a8_oproj i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun x7 x9 x10 x12 E K => ?run⟩
  case run =>
    simp only [cc0_w4a8_oproj_eq_skeleton]; unfold cc0_w4a8_oproj_skel
    simp only [k0_part15_eq_skeleton, k0_part16_eq_skeleton, k0_part17_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists f6; iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexact H12
    iexact H13

end Cert.KernelIdeal.Own

end
-- ==== Proof.KIOutB.lean ====
/- What a point between the first and the last leaves, as functions of the blocks it reads. -/
module

public import proofs.«01_k».proof.Proof.KITile
public import proofs.«01_k».proof.Proof.KIRunB
public import Idealize.ShloMosaic.Lib.Tactic.RunNames

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords) (arg1 : Memref sig .tc .vmem S256x8192 .bf16) (harg1 : arg1.IsWhole) (arg2 : Memref sig .tc .vmem S8192x256 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x5120 .bf16) (harg5 : arg5.IsWhole) (arg6 : Memref sig .tc .vmem S256x512 .bf16) (harg6 : arg6.IsWhole) (arg7 : Memref sig .tc .vmem S256x8192 .i8) (harg7 : arg7.IsWhole) (arg8 : Memref sig .tc .vmem S256x1 .f32) (harg8 : arg8.IsWhole) (arg9 : Memref sig .tc .vmem S256x5120 .fp8e4m3) (harg9 : arg9.IsWhole) (arg10 : Memref sig .tc .vmem S256x1 .f32) (harg10 : arg10.IsWhole) (arg11 : Memref sig .tc .vmem S256x8192 .bf16) (harg11 : arg11.IsWhole) (arg12 : Memref sig .tc .vmem S10x256x512 .bf16) (harg12 : arg12.IsWhole) (arg13 : Memref sig .tc .vmem S256x128 .f32) (harg13 : arg13.IsWhole)
  (hc0 : ¬cond0_0 i) (hc1 : ¬cond0_1 i)
  (x1 : Vec F S256x8192 .bf16) (x2 : Vec F S8192x256 .i8) (x3 : Vec F S1x512 .f32) (x4 : Vec F S256x512 .bf16) (x5 : Vec F S1x5120 .bf16) (x8 : Vec F S256x1 .f32) (x11 : Vec F S256x8192 .bf16) (x13 : Vec F S256x128 .f32)

/-- The tile. -/
theorem runB_ro {sp : Space} (v : View sig .tc sp S256x512 .bf16) (f : v.ty.Contents (Elt F)) :
    v.read (Elt F) (v.writes (Elt F) f (runB c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x13).1) = roOf x8 x11 x2 x3 x4 := by
  rw [← read_halves v f]
  dsimp only [runB]
  sl_unfold_run_names
  rw [View.readAt_full, View.readAt_full, View.readAt_full, harg2.read_unread, harg11.read_unread, harg8.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The tile at its place among the kept ones. -/
theorem runB_keep (x12 : Vec F S10x256x512 .bf16) (y : S10x256x512.Idx) :
    arg12.view.read (Elt F) (arg12.view.writes (Elt F) (harg12.unread x12) (runB c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x13).2.1) y
      = if (y 0).val = (i 0).val then roOf x8 x11 x2 x3 x4 (ix2 (n0 := 256) (n1 := 512) (y 1) (y 2)) else x12 y := by
  have e := read_keep arg12.view (harg12.unread x12) i x8 x11 x2 x3 x4 y
  rw [harg12.read_unread] at e
  rw [← e]
  dsimp only [runB]
  sl_unfold_run_names
  rw [View.readAt_full, View.readAt_full, View.readAt_full, harg2.read_unread, harg11.read_unread, harg8.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The sums of squares. -/
theorem runB_ss {sp : Space} (v : View sig .tc sp S256x128 .f32) (f : v.ty.Contents (Elt F)) :
    v.read (Elt F) (v.writes (Elt F) f (runB c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x13).2.2.1) = ssOf x8 x11 x2 x3 x4 x13 := by
  dsimp only [runB]
  sl_unfold_run_names
  rw [View.read_writes_full]
  rw [View.readCov_full, View.readAt_full, View.readAt_full, View.readAt_full, View.readAt_full, harg2.read_unread, harg11.read_unread, harg8.read_unread, harg13.read_unread,
    read_wsCols _ _ 0 0 rfl (by decide), read_wsCols _ _ 1 256 rfl (by decide), read_resCols _ _ 0 0 rfl (by decide), read_resCols _ _ 1 256 rfl (by decide),
    harg3.read_unread, harg4.read_unread]
  rfl

end Cert.KernelIdeal.Own

end
-- ==== Proof.KIRunC.lean ====
/- The run of the kernel body at the last point: its tile, then the norm, the scale exponent and the codes of the whole row block. -/
module

public import proofs.«01_k».proof.Proof.KIRuns

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each buffer at the last point: its tile, then the norm, the scale exponent and the codes of the whole row block. The pieces are found by the run, which is the proof that
    the body leaves them: the inputs' buffers hold `x1`–`x5`, a buffer this case stores nothing into is handed back as found. -/
noncomputable def runC (c : Dev nD) (i : grid0.Coords) (arg1 : Memref sig .tc .vmem S256x8192 .bf16) (harg1 : arg1.IsWhole) (arg2 : Memref sig .tc .vmem S8192x256 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x5120 .bf16) (harg5 : arg5.IsWhole) (arg6 : Memref sig .tc .vmem S256x512 .bf16) (harg6 : arg6.IsWhole) (arg7 : Memref sig .tc .vmem S256x8192 .i8) (harg7 : arg7.IsWhole) (arg8 : Memref sig .tc .vmem S256x1 .f32) (harg8 : arg8.IsWhole) (arg9 : Memref sig .tc .vmem S256x5120 .fp8e4m3) (harg9 : arg9.IsWhole) (arg10 : Memref sig .tc .vmem S256x1 .f32) (harg10 : arg10.IsWhole) (arg11 : Memref sig .tc .vmem S256x8192 .bf16) (harg11 : arg11.IsWhole) (arg12 : Memref sig .tc .vmem S10x256x512 .bf16) (harg12 : arg12.IsWhole) (arg13 : Memref sig .tc .vmem S256x128 .f32) (harg13 : arg13.IsWhole) (hc0 : ¬cond0_0 i) (hc1 : cond0_1 i)
    (x1 : Vec F S256x8192 .bf16) (x2 : Vec F S8192x256 .i8) (x3 : Vec F S1x512 .f32) (x4 : Vec F S256x512 .bf16) (x5 : Vec F S1x5120 .bf16) (x8 : Vec F S256x1 .f32) (x11 : Vec F S256x8192 .bf16) (x12 : Vec F S10x256x512 .bf16) (x13 : Vec F S256x128 .f32) :
    Σ' (L6 : List (View.Piece (Elt F) S256x512 .bf16)), Σ' (L9 : List (View.Piece (Elt F) S256x5120 .fp8e4m3)), Σ' (L10 : List (View.Piece (Elt F) S256x1 .f32)), Σ' (L12 : List (View.Piece (Elt F) S10x256x512 .bf16)), { L13 : List (View.Piece (Elt F) S256x128 .f32) //
      ∀ (x7 : Vec F S256x8192 .i8) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ owns (c : Thread nD τ) arg11 fullShare x11 ∗ owns (c : Thread nD τ) arg12 fullShare x12 ∗ owns (c : Thread nD τ) arg13 fullShare x13
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ owns (c : Thread nD τ) arg11 fullShare x11 ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13)) -∗ K ⟨⟩))
          ⊢ wp frame (wpE (defs₀ (F := F)) Variants.none c none) E (cc0_w4a8_oproj i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun x7 E K => ?run⟩
  case run =>
    simp only [cc0_w4a8_oproj_eq_skeleton]; unfold cc0_w4a8_oproj_skel
    simp only [k0_part15_eq_skeleton, k0_part16_eq_skeleton, k0_part17_eq_skeleton, k0_part14_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg11.eq_unread hf11; obtain rfl := harg12.eq_unread hf12; obtain rfl := harg13.eq_unread hf13
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists f6; iexact H6
    isplitl [H7]
    · iexists _; isplitr; · ipureintro; exact harg7.read_unread _
      iexact H7
    isplitl [H8]
    · iexists _; isplitr; · ipureintro; exact harg8.read_unread _
      iexact H8
    isplitl [H9]
    · iexists f9; iexact H9
    isplitl [H10]
    · iexists f10; iexact H10
    isplitl [H11]
    · iexists _; isplitr; · ipureintro; exact harg11.read_unread _
      iexact H11
    isplitl [H12]
    · iexact H12
    iexact H13

end Cert.KernelIdeal.Own

end
-- ==== Proof.KIOutC.lean ====
/- What the last point leaves, as functions of the blocks it reads. -/
module

public import proofs.«01_k».proof.Proof.KITile
public import proofs.«01_k».proof.Proof.KIRunC
public import Idealize.ShloMosaic.Lib.Tactic.RunNames

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Ten tiles of codes, stored one by one, are the whole row block's. -/
theorem tiles_yc {sp : Space} (v : View sig .tc sp S256x5120 .fp8e4m3) (f : v.ty.Contents (Elt F)) (ss : Vec F S256x128 .f32) (r : Vec F S10x256x512 .bf16)
    (g : Vec F S1x5120 .bf16) :
    v.read (Elt F) (v.writes (Elt F) f [⟨Rect.unit (s := S256x5120) ![0, 4608] S256x512.size inb_S256x5120_S256x512_0_4608, ycTile ss r g 9⟩, ⟨Rect.unit (s := S256x5120) ![0, 4096] S256x512.size inb_S256x5120_S256x512_0_4096, ycTile ss r g 8⟩, ⟨Rect.unit (s := S256x5120) ![0, 3584] S256x512.size inb_S256x5120_S256x512_0_3584, ycTile ss r g 7⟩, ⟨Rect.unit (s := S256x5120) ![0, 3072] S256x512.size inb_S256x5120_S256x512_0_3072, ycTile ss r g 6⟩, ⟨Rect.unit (s := S256x5120) ![0, 2560] S256x512.size inb_S256x5120_S256x512_0_2560, ycTile ss r g 5⟩, ⟨Rect.unit (s := S256x5120) ![0, 2048] S256x512.size inb_S256x5120_S256x512_0_2048, ycTile ss r g 4⟩, ⟨Rect.unit (s := S256x5120) ![0, 1536] S256x512.size inb_S256x5120_S256x512_0_1536, ycTile ss r g 3⟩, ⟨Rect.unit (s := S256x5120) ![0, 1024] S256x512.size inb_S256x5120_S256x512_0_1024, ycTile ss r g 2⟩, ⟨Rect.unit (s := S256x5120) ![0, 512] S256x512.size inb_S256x5120_S256x512_0_512, ycTile ss r g 1⟩, ⟨Rect.unit (s := S256x5120) ![0, 0] S256x512.size inb_S256x5120_S256x512_0_0, ycTile ss r g 0⟩]) = ycOf ss r g := by
  funext y
  refine View.read_writes_apply_of_pieces v f (ycOf ss r g) _ ?_ y (View.cover_of_tiledL (s := S256x5120) _ S256x512.size (by sl_kernel_rfl) y)
  simp only [List.forall_mem_cons, List.not_mem_nil, false_imp_iff, implies_true, and_true]
  exact ⟨fun z => (at_tile (n := 256) (W := 512) (N := 5120) (ycTile ss r g) (by decide) 9 4608 rfl inb_S256x5120_S256x512_0_4608 z).symm,
    fun z => (at_tile (n := 256) (W := 512) (N := 5120) (ycTile ss r g) (by decide) 8 4096 rfl inb_S256x5120_S256x512_0_4096 z).symm,
    fun z => (at_tile (n := 256) (W := 512) (N := 5120) (ycTile ss r g) (by decide) 7 3584 rfl inb_S256x5120_S256x512_0_3584 z).symm,
    fun z => (at_tile (n := 256) (W := 512) (N := 5120) (ycTile ss r g) (by decide) 6 3072 rfl inb_S256x5120_S256x512_0_3072 z).symm,
    fun z => (at_tile (n := 256) (W := 512) (N := 5120) (ycTile ss r g) (by decide) 5 2560 rfl inb_S256x5120_S256x512_0_2560 z).symm,
    fun z => (at_tile (n := 256) (W := 512) (N := 5120) (ycTile ss r g) (by decide) 4 2048 rfl inb_S256x5120_S256x512_0_2048 z).symm,
    fun z => (at_tile (n := 256) (W := 512) (N := 5120) (ycTile ss r g) (by decide) 3 1536 rfl inb_S256x5120_S256x512_0_1536 z).symm,
    fun z => (at_tile (n := 256) (W := 512) (N := 5120) (ycTile ss r g) (by decide) 2 1024 rfl inb_S256x5120_S256x512_0_1024 z).symm,
    fun z => (at_tile (n := 256) (W := 512) (N := 5120) (ycTile ss r g) (by decide) 1 512 rfl inb_S256x5120_S256x512_0_512 z).symm,
    fun z => (at_tile (n := 256) (W := 512) (N := 5120) (ycTile ss r g) (by decide) 0 0 rfl inb_S256x5120_S256x512_0_0 z).symm⟩

variable (c : Dev nD) (i : grid0.Coords) (arg1 : Memref sig .tc .vmem S256x8192 .bf16) (harg1 : arg1.IsWhole) (arg2 : Memref sig .tc .vmem S8192x256 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x5120 .bf16) (harg5 : arg5.IsWhole) (arg6 : Memref sig .tc .vmem S256x512 .bf16) (harg6 : arg6.IsWhole) (arg7 : Memref sig .tc .vmem S256x8192 .i8) (harg7 : arg7.IsWhole) (arg8 : Memref sig .tc .vmem S256x1 .f32) (harg8 : arg8.IsWhole) (arg9 : Memref sig .tc .vmem S256x5120 .fp8e4m3) (harg9 : arg9.IsWhole) (arg10 : Memref sig .tc .vmem S256x1 .f32) (harg10 : arg10.IsWhole) (arg11 : Memref sig .tc .vmem S256x8192 .bf16) (harg11 : arg11.IsWhole) (arg12 : Memref sig .tc .vmem S10x256x512 .bf16) (harg12 : arg12.IsWhole) (arg13 : Memref sig .tc .vmem S256x128 .f32) (harg13 : arg13.IsWhole)
  (hc0 : ¬cond0_0 i) (hc1 : cond0_1 i)
  (x1 : Vec F S256x8192 .bf16) (x2 : Vec F S8192x256 .i8) (x3 : Vec F S1x512 .f32) (x4 : Vec F S256x512 .bf16) (x5 : Vec F S1x5120 .bf16) (x8 : Vec F S256x1 .f32) (x11 : Vec F S256x8192 .bf16) (x12 : Vec F S10x256x512 .bf16) (x13 : Vec F S256x128 .f32)

/-- The tile. -/
theorem runC_ro {sp : Space} (v : View sig .tc sp S256x512 .bf16) (f : v.ty.Contents (Elt F)) :
    v.read (Elt F) (v.writes (Elt F) f (runC c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x12 x13).1) = roOf x8 x11 x2 x3 x4 := by
  rw [← read_halves v f]
  dsimp only [runC]
  sl_unfold_run_names
  rw [View.readAt_full, View.readAt_full, View.readAt_full, harg2.read_unread, harg11.read_unread, harg8.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The tile at its place among the kept ones. -/
theorem runC_keep (y : S10x256x512.Idx) :
    (arg12.view.read (Elt F) (arg12.view.writes (Elt F) (harg12.unread x12) (runC c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x12 x13).2.2.2.1)) y
      = if (y 0).val = (i 0).val then roOf x8 x11 x2 x3 x4 (ix2 (n0 := 256) (n1 := 512) (y 1) (y 2)) else x12 y := by
  have e := read_keep arg12.view (harg12.unread x12) i x8 x11 x2 x3 x4 y
  rw [harg12.read_unread] at e
  rw [← e]
  dsimp only [runC]
  sl_unfold_run_names
  rw [View.readAt_full, View.readAt_full, View.readAt_full, harg2.read_unread, harg11.read_unread, harg8.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The sums of squares. -/
theorem runC_ss {sp : Space} (v : View sig .tc sp S256x128 .f32) (f : v.ty.Contents (Elt F)) :
    v.read (Elt F) (v.writes (Elt F) f (runC c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x12 x13).2.2.2.2.1) = (ssOf x8 x11 x2 x3 x4 x13) := by
  dsimp only [runC]
  sl_unfold_run_names
  rw [View.read_writes_full, View.readCov_full, View.readAt_full, View.readAt_full, View.readAt_full, View.readAt_full, harg2.read_unread, harg11.read_unread, harg8.read_unread, harg13.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The sums of squares as the last point's norm reads them back. -/
theorem cov_ss (inb : ∀ a, ![0, 0] a + S256x128.size a ≤ S256x128.size a) :
    arg13.view.readCov (runC.sl.H13_2 c arg2 harg2 arg3 harg3 arg4 harg4 arg8 harg8 arg11 harg11 arg13 harg13 x2 x3 x4 x8 x11 x13)
      (Rect.unit (s := S256x128) ![0, 0] S256x128.size inb).toLoadRect = (ssOf x8 x11 x2 x3 x4 x13) := by
  show arg13.view.readAt (Elt F) _ (arg13.view.writes (Elt F) arg13.view.junk _) = _
  rw [View.readAt_full]
  sl_unfold_run_names
  rw [View.read_writes_full, View.readCov_full, View.readAt_full, View.readAt_full, View.readAt_full, View.readAt_full, harg2.read_unread, harg11.read_unread, harg8.read_unread, harg13.read_unread,
    read_wsCols _ _ 0 0 rfl (by decide), read_wsCols _ _ 1 256 rfl (by decide), read_resCols _ _ 0 0 rfl (by decide), read_resCols _ _ 1 256 rfl (by decide),
    harg3.read_unread, harg4.read_unread]
  rfl

/-- The scales of the normalised rows. -/
theorem runC_ys {sp : Space} (v : View sig .tc sp S256x1 .f32) (f : v.ty.Contents (Elt F)) :
    v.read (Elt F) (v.writes (Elt F) f (runC c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x12 x13).2.2.1) = ysOf (ssOf x8 x11 x2 x3 x4 x13) (arg12.view.read (Elt F) (arg12.view.writes (Elt F) (harg12.unread x12) (runC c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x12 x13).2.2.2.1)) x5 := by
  dsimp only [runC]
  sl_unfold_run_values
  rw [View.read_writes_full, cov_ss,
    read_rTile _ _ 0 (by decide), read_gTile _ _ 0 0 rfl (by decide),
    read_rTile _ _ 1 (by decide), read_gTile _ _ 1 512 rfl (by decide),
    read_rTile _ _ 2 (by decide), read_gTile _ _ 2 1024 rfl (by decide),
    read_rTile _ _ 3 (by decide), read_gTile _ _ 3 1536 rfl (by decide),
    read_rTile _ _ 4 (by decide), read_gTile _ _ 4 2048 rfl (by decide),
    read_rTile _ _ 5 (by decide), read_gTile _ _ 5 2560 rfl (by decide),
    read_rTile _ _ 6 (by decide), read_gTile _ _ 6 3072 rfl (by decide),
    read_rTile _ _ 7 (by decide), read_gTile _ _ 7 3584 rfl (by decide),
    read_rTile _ _ 8 (by decide), read_gTile _ _ 8 4096 rfl (by decide),
    read_rTile _ _ 9 (by decide), read_gTile _ _ 9 4608 rfl (by decide), harg5.read_unread]
  rfl

/-- The codes of the normalised rows. -/
theorem runC_yc {sp : Space} (v : View sig .tc sp S256x5120 .fp8e4m3) (f : v.ty.Contents (Elt F)) :
    v.read (Elt F) (v.writes (Elt F) f (runC c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x12 x13).2.1) = ycOf (ssOf x8 x11 x2 x3 x4 x13) (arg12.view.read (Elt F) (arg12.view.writes (Elt F) (harg12.unread x12) (runC c i arg1 harg1 arg2 harg2 arg3 harg3 arg4 harg4 arg5 harg5 arg6 harg6 arg7 harg7 arg8 harg8 arg9 harg9 arg10 harg10 arg11 harg11 arg12 harg12 arg13 harg13 hc0 hc1 x1 x2 x3 x4 x5 x8 x11 x12 x13).2.2.2.1)) x5 := by
  rw [← tiles_yc v f]
  dsimp only [runC]
  sl_unfold_run_values
  rw [cov_ss,
    read_rTile _ _ 0 (by decide), read_gTile _ _ 0 0 rfl (by decide),
    read_rTile _ _ 1 (by decide), read_gTile _ _ 1 512 rfl (by decide),
    read_rTile _ _ 2 (by decide), read_gTile _ _ 2 1024 rfl (by decide),
    read_rTile _ _ 3 (by decide), read_gTile _ _ 3 1536 rfl (by decide),
    read_rTile _ _ 4 (by decide), read_gTile _ _ 4 2048 rfl (by decide),
    read_rTile _ _ 5 (by decide), read_gTile _ _ 5 2560 rfl (by decide),
    read_rTile _ _ 6 (by decide), read_gTile _ _ 6 3072 rfl (by decide),
    read_rTile _ _ 7 (by decide), read_gTile _ _ 7 3584 rfl (by decide),
    read_rTile _ _ 8 (by decide), read_gTile _ _ 8 4096 rfl (by decide),
    read_rTile _ _ 9 (by decide), read_gTile _ _ 9 4608 rfl (by decide), harg5.read_unread]
  rfl

end Cert.KernelIdeal.Own

end
-- ==== Proof.KIData.lean ====
/- The proof data of the pipeline: what each buffer holds point by point, and the invariant of the scratch. -/
module

public import proofs.«01_k».proof.Proof.KIOutA
public import proofs.«01_k».proof.Proof.KIOutB
public import proofs.«01_k».proof.Proof.KIOutC
public import Idealize.ShloMosaic.Lib.Pipeline.TableIdle
public import Idealize.ShloMosaic.Lib.Claim

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold, point by point -/

/-- Point `n`. -/
def pt (n : ℕ) : Fin cfg0.N := ⟨n % 10, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

theorem pt_zero (t : Fin cfg0.N) (h : t.val % 10 = 0) : pt 0 = t :=
  Fin.ext (show 0 % 10 = t.val by have := Nat.lt_of_lt_of_eq t.isLt N_0; omega)

section Data
variable (c : Dev nD)

/-- The activations' scales, codes, and codes as floats. -/
def xsF : Vec F S256x1 .f32 := xsOf (iblk m c 0 (pt 0))
def xcF : Vec F S256x8192 .i8 := xcOf (iblk m c 0 (pt 0))
def xqF : Vec F S256x8192 .bf16 := xqOf (iblk m c 0 (pt 0))
/-- The tile of point `t`. -/
def roF (t : Fin cfg0.N) : Vec F S256x512 .bf16 := roOf (xsF m c) (xqF m c) (iblk m c 1 t) (iblk m c 2 t) (iblk m c 3 t)
/-- The sums of squares after point `n`. -/
def ssF : ℕ → Vec F S256x128 .f32
  | 0 => ssOf (xsF m c) (xqF m c) (iblk m c 1 (pt 0)) (iblk m c 2 (pt 0)) (iblk m c 3 (pt 0)) k0_pay3
  | n + 1 => ssOf (xsF m c) (xqF m c) (iblk m c 1 (pt (n + 1))) (iblk m c 2 (pt (n + 1))) (iblk m c 3 (pt (n + 1))) (ssF n)
/-- All tiles. -/
def rallF : Vec F S10x256x512 .bf16 := fun y => roF m c (pt (y 0).val) (ix2 (n0 := 256) (n1 := 512) (y 1) (y 2))
/-- The codes and scales of the normalised rows. -/
def ycF (t : Fin cfg0.N) : Vec F S256x5120 .fp8e4m3 := ycOf (ssF m c 9) (rallF m c) (iblk m c 4 t)
def ysF (t : Fin cfg0.N) : Vec F S256x1 .f32 := ysOf (ssF m c 9) (rallF m c) (iblk m c 4 t)

variable (t : Fin cfg0.N)

theorem xsF_first (h : t.val % 10 = 0) : xsOf (iblk m c 0 t) = xsF m c := by unfold xsF; rw [pt_zero t h]
theorem xcF_first (h : t.val % 10 = 0) : xcOf (iblk m c 0 t) = xcF m c := by unfold xcF; rw [pt_zero t h]
theorem xqF_first (h : t.val % 10 = 0) : xqOf (iblk m c 0 t) = xqF m c := by unfold xqF; rw [pt_zero t h]
theorem roF_first (h : t.val % 10 = 0) :
    roOf (xsOf (iblk m c 0 t)) (xqOf (iblk m c 0 t)) (iblk m c 1 t) (iblk m c 2 t) (iblk m c 3 t) = roF m c t := by
  unfold roF; rw [xsF_first m c t h, xqF_first m c t h]
theorem ssF_first (h : t.val % 10 = 0) :
    ssOf (xsOf (iblk m c 0 t)) (xqOf (iblk m c 0 t)) (iblk m c 1 t) (iblk m c 2 t) (iblk m c 3 t) k0_pay3 = ssF m c t.val := by
  have hz : t.val = 0 := by have := Nat.lt_of_lt_of_eq t.isLt N_0; omega
  rw [hz]; unfold ssF; rw [xsF_first m c t h, xqF_first m c t h, pt_zero t h]
theorem ssF_later (h : t.val ≠ 0) :
    ssOf (xsF m c) (xqF m c) (iblk m c 1 t) (iblk m c 2 t) (iblk m c 3 t) (ssF m c (t.val - 1)) = ssF m c t.val := by
  obtain ⟨n, hn⟩ := Nat.exists_eq_succ_of_ne_zero h
  have e : pt (n + 1) = t := by rw [← pt_val t, hn]
  rw [hn]
  show _ = ssOf (xsF m c) (xqF m c) (iblk m c 1 (pt (n + 1))) (iblk m c 2 (pt (n + 1))) (iblk m c 3 (pt (n + 1))) (ssF m c n)
  rw [e]; rfl

/-- A point's tile put at its place: the kept tiles up to that point are the ones meant. -/
theorem rall_step (d : Vec F S10x256x512 .bf16) (hd : ∀ y : S10x256x512.Idx, (y 0).val + 1 ≤ t.val → d y = rallF m c y)
    (y : S10x256x512.Idx) (hy : (y 0).val ≤ t.val) :
    (if (y 0).val = (grid0.coords t 0).val then roF m c t (ix2 (n0 := 256) (n1 := 512) (y 1) (y 2)) else d y) = rallF m c y := by
  have ht : t.val < 10 := Nat.lt_of_lt_of_eq t.isLt N_0
  have e0 : (grid0.coords t 0).val = t.val / 1 % 10 := Pipeline.Grid.coords_val t 0 (by decide) rfl
  split
  · next h =>
    have : (y 0).val = t.val := by omega
    unfold rallF; rw [this, pt_val]
  · next h => exact hd y (by omega)
end Data

/-! ## The invariant between points -/

/-- Before the first point anything; after point `n` the codes as floats, the tiles up to `n`, and the sums of squares. -/
def PhiS (c : Dev nD) : ℕ → sProp 𝕄
  | 0 => Pipeline.ΦA spec0 c
  | n + 1 => iprop(iprop(owns (c : Thread nD τ) scM0_0 fullShare (xqF m c)
      ∗ (∃ d, ⌜∀ y : S10x256x512.Idx, (y 0).val ≤ n → d y = rallF m c y⌝ ∗ owns (c : Thread nD τ) scM0_1 fullShare d)
      ∗ owns (c : Thread nD τ) scM0_2 fullShare (ssF m c n)) ∗ (∃ r, prngReg c r))

theorem PhiS_zero (c : Dev nD) (n : ℕ) (hz : n = 0) : PhiS m c n = Pipeline.ΦA spec0 c := by subst hz; rfl

theorem PhiS_succ (c : Dev nD) (n : ℕ) :
    PhiS m c (n + 1) = iprop(iprop(owns (c : Thread nD τ) scM0_0 fullShare (xqF m c)
      ∗ (∃ d, ⌜∀ y : S10x256x512.Idx, (y 0).val ≤ n → d y = rallF m c y⌝ ∗ owns (c : Thread nD τ) scM0_1 fullShare d)
      ∗ owns (c : Thread nD τ) scM0_2 fullShare (ssF m c n)) ∗ (∃ r, prngReg c r)) := rfl

theorem PhiS_pos (c : Dev nD) (n : ℕ) (hz : n ≠ 0) :
    PhiS m c n = iprop(iprop(owns (c : Thread nD τ) scM0_0 fullShare (xqF m c)
      ∗ (∃ d, ⌜∀ y : S10x256x512.Idx, (y 0).val ≤ n - 1 → d y = rallF m c y⌝ ∗ owns (c : Thread nD τ) scM0_1 fullShare d)
      ∗ owns (c : Thread nD τ) scM0_2 fullShare (ssF m c (n - 1))) ∗ (∃ r, prngReg c r)) := by
  cases n with
  | zero => exact absurd rfl hz
  | succ n => rfl

/-! ## The pipeline's proof data -/

/-- The arrays as the region finds them, each input's buffer at its block, the outputs' at what is said above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => roF m c t
    | ⟨6, _⟩ => xcF m c
    | ⟨7, _⟩ => xsF m c
    | ⟨8, _⟩ => ycF m c t
    | ⟨9, _⟩ => ysF m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = roF m c t := by dsimp only [dats]
theorem after0_6 (c : Dev nD) (t : Fin cfg0.N) : (dats m 0 c).after 6 t = xcF m c := by dsimp only [dats]
theorem after0_7 (c : Dev nD) (t : Fin cfg0.N) : (dats m 0 c).after 7 t = xsF m c := by dsimp only [dats]
theorem after0_8 (c : Dev nD) (t : Fin cfg0.N) : (dats m 0 c).after 8 t = ycF m c t := by dsimp only [dats]
theorem after0_9 (c : Dev nD) (t : Fin cfg0.N) : (dats m 0 c).after 9 t = ysF m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Output 6's buffer holds something stored at every point but the first. -/
theorem fresh0_6 (t : Fin cfg0.N) : cfg0.fresh 6 t.val = (t.val % 10 == 0) :=
  cfg0.fresh_tab 6 (fun n => n % 10 == 0) rfl (by decide +kernel) t.val (Nat.le_of_lt t.isLt)
/-- So from the second point on it is found as the first left it. -/
theorem before0_6 (c : Dev nD) (t : Fin cfg0.N) (h : ¬t.val % 10 = 0) (d) : (dats m 0 c).before 6 t d = xcF m c := by
  rw [(dats m 0 c).before_out_traj 6 rfl (fun _ _ => rfl) (fun t _ _ _ => by rw [after0_6, after0_6]) _ t rfl d, fresh0_6,
    if_neg (by simpa using h), after0_6]

/-- Output 7's buffer holds something stored at every point but the first. -/
theorem fresh0_7 (t : Fin cfg0.N) : cfg0.fresh 7 t.val = (t.val % 10 == 0) :=
  cfg0.fresh_tab 7 (fun n => n % 10 == 0) rfl (by decide +kernel) t.val (Nat.le_of_lt t.isLt)
/-- So from the second point on it is found as the first left it. -/
theorem before0_7 (c : Dev nD) (t : Fin cfg0.N) (h : ¬t.val % 10 = 0) (d) : (dats m 0 c).before 7 t d = xsF m c := by
  rw [(dats m 0 c).before_out_traj 7 rfl (fun _ _ => rfl) (fun t _ _ _ => by rw [after0_7, after0_7]) _ t rfl d, fresh0_7,
    if_neg (by simpa using h), after0_7]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- A buffer overwritten is a buffer owned at what it then reads as. -/
theorem keep_intro {s : Shape} {e : EltTy} (c : Dev nD) (M : Memref sig .tc .vmem s e) (f) (L : List (View.Piece (Elt F) s e)) (P : Vec F s e → Prop) (h : P (M.view.read (Elt F) (M.view.writes (Elt F) f L))) :
    (M.view.loc (c : Thread nD τ) ↦[M.view.set]{fullShare} M.view.writes (Elt F) f L : sProp 𝕄) ⊢ iprop(∃ d, ⌜P d⌝ ∗ owns (c : Thread nD τ) M fullShare d) := by
  iintro H
  iexists (M.view.read (Elt F) (M.view.writes (Elt F) f L))
  isplitr
  · ipureintro; exact h
  unfold owns; iexists _; isplitr
  swap; · iexact H
  ipureintro; rfl

end Cert.KernelIdeal.Own

end
-- ==== Proof.KISoundA.lean ====
/- The body's triple at one kind of point. -/
module

public import proofs.«01_k».proof.Proof.KIData

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point. -/
theorem sound_A (c : Dev nD) (t : Fin cfg0.N) (h0 : t.val % 10 = 0) (h1 : ¬t.val % 10 = 9) :
    bodyPre m c t ⊢ wp frame (wpE (defs₀ (F := F)) Variants.none c none) Set.univ (bodyAt0 t) (fun _ => bodyPost m c t) := by
    have hN : t.val < 10 := lt_of_lt_of_eq t.isLt (show cfg0.N = 10 from N_0)
    unfold bodyPre bodyPost bodyAt0
    simp only [before0_0, before0_1, before0_2, before0_3, before0_4]
    rw [show (dats m 0 c).owesAt () t.succ = (dats m 0 c).owesAt () t.castSucc from rfl]
    rw [show (dats m 0 c).Φ t.succ = PhiS m c (t.val + 1) from rfl, PhiS_succ]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t ((hcond0_0 t).mpr h0)], after0_6]
    rw [show (dats m 0 c).leavesExact 7 t = owns (c : Thread nD τ) (ms0_7 t) fullShare ((dats m 0 c).after 7 t) from by
      unfold Dat.leavesExact; rw [liveAt0_7 t ((hcond0_0 t).mpr h0)], after0_7]
    rw [Dat.leavesExact_idle (dats m 0 c) 8 t (idleAt0_8 t (fun h => h1 ((hcond0_1 t).mp h))) (noFlush0_8 t (fun h => h1 ((hcond0_1 t).mp h)))]
    rw [Dat.leavesExact_idle (dats m 0 c) 9 t (idleAt0_9 t (fun h => h1 ((hcond0_1 t).mp h))) (noFlush0_9 t (fun h => h1 ((hcond0_1 t).mp h)))]
    rw [Phi_castSucc m c t, PhiS_zero m c _ (by omega), PhiA0_eq]
    iintro ⟨⟨⟨HS0, ⟨%d12, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2 _ _ d12 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexact H9
    isplitl [HS0]; · iexact HS0
    isplitl [HS1]; · iexact HS1
    isplitl [HS2]; · iexact HS2
    iintro ⟨H0, H1, H2, H3, H4, ⟨%e5, H5⟩, ⟨%e6, H6⟩, ⟨%e7, H7⟩, H8, H9, ⟨%es0, HS0⟩, HS1, ⟨%es2, HS2⟩⟩
    isplitl [HS0 HS1 HS2 Hg]
    · isplitl [HS0 HS1 HS2]
      · isplitl [HS0]
        · unfold owns; iexists _; isplitr
          swap; · iexact HS0
          ipureintro; exact (runA_xq c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _).trans (xqF_first m c t h0)
        isplitl [HS1]
        · iapply (keep_intro c scM0_1 _ _ (fun d => ∀ y : S10x256x512.Idx, (y 0).val ≤ t.val → d y = rallF m c y) (fun y hy => (runA_keep c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) d12 y).trans ((by rw [roF_first m c t h0]; exact rall_step m c t d12 (fun y h => absurd h (by omega)) y hy))))
          iexact HS1
        · unfold owns; iexists _; isplitr
          swap; · iexact HS2
          ipureintro; exact (runA_ss c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _).trans (ssF_first m c t h0)
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · unfold owns; iexists _; isplitr
      swap; · iexact H5
      ipureintro; exact (runA_ro c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _).trans (roF_first m c t h0)
    isplitl [H6]
    · unfold owns; iexists _; isplitr
      swap; · iexact H6
      ipureintro; exact (runA_xc c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _).trans (xcF_first m c t h0)
    isplitl [H7]
    · unfold owns; iexists _; isplitr
      swap; · iexact H7
      ipureintro; exact (runA_xs c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _).trans (xsF_first m c t h0)
    isplitl [H8]
    · iexists d8; iexact H8
    · iexists d9; iexact H9

end Cert.KernelIdeal.Own

end
-- ==== Proof.KISoundB.lean ====
/- The body's triple at one kind of point. -/
module

public import proofs.«01_k».proof.Proof.KIData

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point between. -/
theorem sound_B (c : Dev nD) (t : Fin cfg0.N) (h0 : ¬t.val % 10 = 0) (h1 : ¬t.val % 10 = 9) :
    bodyPre m c t ⊢ wp frame (wpE (defs₀ (F := F)) Variants.none c none) Set.univ (bodyAt0 t) (fun _ => bodyPost m c t) := by
    have hN : t.val < 10 := lt_of_lt_of_eq t.isLt (show cfg0.N = 10 from N_0)
    unfold bodyPre bodyPost bodyAt0
    simp only [before0_0, before0_1, before0_2, before0_3, before0_4]
    rw [show (dats m 0 c).owesAt () t.succ = (dats m 0 c).owesAt () t.castSucc from rfl]
    rw [show (dats m 0 c).Φ t.succ = PhiS m c (t.val + 1) from rfl, PhiS_succ]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6 t (fun h => h0 ((hcond0_0 t).mp h))) (noFlush0_6 t (fun h => h1 ((hcond0_1 t).mp h)))]
    rw [Dat.leavesExact_idle (dats m 0 c) 7 t (idleAt0_7 t (fun h => h0 ((hcond0_0 t).mp h))) (noFlush0_7 t (fun h => h1 ((hcond0_1 t).mp h)))]
    rw [Dat.leavesExact_idle (dats m 0 c) 8 t (idleAt0_8 t (fun h => h1 ((hcond0_1 t).mp h))) (noFlush0_8 t (fun h => h1 ((hcond0_1 t).mp h)))]
    rw [Dat.leavesExact_idle (dats m 0 c) 9 t (idleAt0_9 t (fun h => h1 ((hcond0_1 t).mp h))) (noFlush0_9 t (fun h => h1 ((hcond0_1 t).mp h)))]
    simp only [before0_6 m c t h0, before0_7 m c t h0]
    have hz : t.val ≠ 0 := by omega
    rw [Phi_castSucc m c t, PhiS_pos m c _ hz]
    iintro ⟨⟨⟨HS0, ⟨%d12, %hd, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (xsF m c) (xqF m c) (ssF m c (t.val - 1))).2.2.2 _ _ _ d12 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, ⟨%e5, H5⟩, H6, H7, H8, H9, HS0, HS1, HS2⟩
    isplitl [HS0 HS1 HS2 Hg]
    · isplitl [HS0 HS1 HS2]
      · isplitl [HS0]
        · iexact HS0
        isplitl [HS1]
        · iapply (keep_intro c scM0_1 _ _ (fun d => ∀ y : S10x256x512.Idx, (y 0).val ≤ t.val → d y = rallF m c y) (fun y hy => (runB_keep c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (xsF m c) (xqF m c) (ssF m c (t.val - 1)) d12 y).trans (rall_step m c t d12 (fun y h => hd y (by omega)) y hy)))
          iexact HS1
        · unfold owns; iexists _; isplitr
          swap; · iexact HS2
          ipureintro; exact (runB_ss c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (xsF m c) (xqF m c) (ssF m c (t.val - 1)) _ _).trans (ssF_later m c t hz)
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · unfold owns; iexists _; isplitr
      swap; · iexact H5
      ipureintro; exact (runB_ro c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (xsF m c) (xqF m c) (ssF m c (t.val - 1)) _ _).trans (rfl)
    isplitl [H6]
    · iexists d6; iexact H6
    isplitl [H7]
    · iexists d7; iexact H7
    isplitl [H8]
    · iexists d8; iexact H8
    · iexists d9; iexact H9

end Cert.KernelIdeal.Own

end
-- ==== Proof.KISoundC.lean ====
/- The body's triple at one kind of point. -/
module

public import proofs.«01_k».proof.Proof.KIData

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last point. -/
theorem sound_C (c : Dev nD) (t : Fin cfg0.N) (h0 : ¬t.val % 10 = 0) (h1 : t.val % 10 = 9) :
    bodyPre m c t ⊢ wp frame (wpE (defs₀ (F := F)) Variants.none c none) Set.univ (bodyAt0 t) (fun _ => bodyPost m c t) := by
    have hN : t.val < 10 := lt_of_lt_of_eq t.isLt (show cfg0.N = 10 from N_0)
    unfold bodyPre bodyPost bodyAt0
    simp only [before0_0, before0_1, before0_2, before0_3, before0_4]
    rw [show (dats m 0 c).owesAt () t.succ = (dats m 0 c).owesAt () t.castSucc from rfl]
    rw [show (dats m 0 c).Φ t.succ = PhiS m c (t.val + 1) from rfl, PhiS_succ]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [idleAt0_6 t (fun h => h0 ((hcond0_0 t).mp h)), doFlush0_6 t ((hcond0_1 t).mpr h1)], after0_6]
    rw [show (dats m 0 c).leavesExact 7 t = owns (c : Thread nD τ) (ms0_7 t) fullShare ((dats m 0 c).after 7 t) from by
      unfold Dat.leavesExact; rw [idleAt0_7 t (fun h => h0 ((hcond0_0 t).mp h)), doFlush0_7 t ((hcond0_1 t).mpr h1)], after0_7]
    rw [show (dats m 0 c).leavesExact 8 t = owns (c : Thread nD τ) (ms0_8 t) fullShare ((dats m 0 c).after 8 t) from by
      unfold Dat.leavesExact; rw [liveAt0_8 t ((hcond0_1 t).mpr h1)], after0_8]
    rw [show (dats m 0 c).leavesExact 9 t = owns (c : Thread nD τ) (ms0_9 t) fullShare ((dats m 0 c).after 9 t) from by
      unfold Dat.leavesExact; rw [liveAt0_9 t ((hcond0_1 t).mpr h1)], after0_9]
    simp only [before0_6 m c t h0, before0_7 m c t h0]
    have hz : t.val ≠ 0 := by omega
    rw [Phi_castSucc m c t, PhiS_pos m c _ hz]
    iintro ⟨⟨⟨HS0, ⟨%d12, %hd, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runC c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1))).2.2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, ⟨%e5, H5⟩, H6, H7, ⟨%e8, H8⟩, ⟨%e9, H9⟩, HS0, HS1, HS2⟩
    isplitl [HS0 HS1 HS2 Hg]
    · isplitl [HS0 HS1 HS2]
      · isplitl [HS0]
        · iexact HS0
        isplitl [HS1]
        · iapply (keep_intro c scM0_1 _ _ (fun d => ∀ y : S10x256x512.Idx, (y 0).val ≤ t.val → d y = rallF m c y) (fun y hy => (runC_keep c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1)) y).trans (rall_step m c t d12 (fun y h => hd y (by omega)) y hy)))
          iexact HS1
        · unfold owns; iexists _; isplitr
          swap; · iexact HS2
          ipureintro; exact (runC_ss c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1)) _ _).trans (ssF_later m c t hz)
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · unfold owns; iexists _; isplitr
      swap; · iexact H5
      ipureintro; exact (runC_ro c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1)) _ _).trans (rfl)
    isplitl [H6]
    · iexact H6
    isplitl [H7]
    · iexact H7
    isplitl [H8]
    · unfold owns; iexists _; isplitr
      swap; · iexact H8
      ipureintro; exact (runC_yc c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1)) _ _).trans (congrArg₂ (fun s r => ycOf s r (iblk m c 4 t)) ((ssF_later m c t hz).trans (congrArg (ssF m c) (show t.val = 9 by omega))) (funext fun y => (runC_keep c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1)) y).trans (rall_step m c t d12 (fun y h => hd y (by omega)) y (by have := (y 0).isLt; have e : (S10x256x512.size 0) = 10 := rfl; omega))))
    · unfold owns; iexists _; isplitr
      swap; · iexact H9
      ipureintro; exact (runC_ys c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1)) _ _).trans (congrArg₂ (fun s r => ysOf s r (iblk m c 4 t)) ((ssF_later m c t hz).trans (congrArg (ssF m c) (show t.val = 9 by omega))) (funext fun y => (runC_keep c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF m c) (xqF m c) d12 (ssF m c (t.val - 1)) y).trans (rall_step m c t d12 (fun y h => hd y (by omega)) y (by have := (y 0).isLt; have e : (S10x256x512.size 0) = 10 := rfl; omega))))

end Cert.KernelIdeal.Own

end
-- ==== Proof.KIFrame.lean ====
/- The run of the whole kernel and its frame. -/
module

public import proofs.«01_k».proof.Proof.KISoundA
public import proofs.«01_k».proof.Proof.KISoundB
public import proofs.«01_k».proof.Proof.KISoundC

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 10 = 0
  · exact sound_A m c t h0 (by omega)
  · by_cases h1 : t.val % 10 = 9
    · exact sound_C m c t h0 h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the scratch buffers' named contents are forgotten. -/
theorem hout (c : Dev nD) : (dats m 0 c).Φ (Fin.last cfg0.N) ⊢ Pipeline.ΦA spec0 c := by
  rw [show (dats m 0 c).Φ (Fin.last cfg0.N) = PhiS m c cfg0.N from rfl, PhiS_pos m c _ (by rw [show cfg0.N = 10 from N_0]; decide), PhiA0_eq]
  iintro ⟨⟨HS0, ⟨%d, %hd, HS1⟩, HS2⟩, Hg⟩
  isplitl [HS0 HS1 HS2]
  · isplitl [HS0]
    · iexists _; iexact HS0
    isplitl [HS1]
    · iexists _; iexact HS1
    iexists _; iexact HS2
  iexact Hg

/-! ## The run and the frame -/

-- `θ_run_frame_track`'s implicit arguments are found by unifying its conclusion with this one, which takes unfolding plain
-- definitions in a metavariable's type
set_option backward.isDefEq.respectTransparency.types false in
/-- The run: every array of the pipeline ends at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- and every counter at zero: the frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Own

end
-- ==== Proof.KIValue.lean ====
/- The five arrays the kernel leaves, as functions of the arrays that the region finds. -/
module

public import proofs.«01_k».proof.Proof.KIFrame
public import Idealize.ShloMosaic.Lib.Pipeline.ValueKit

@[expose] public section

noncomputable section

namespace Cert.KernelIdeal.Own

open Cert.KernelIdeal Cert.KernelIdeal.Gen Idealize.ShloMosaic Idealize.ShloMosaic.TcCoe Idealize.SL.Sem

variable {F : FTy → Type} [FloatOps F]

section Arrays
variable (X : Vec F S256x8192 .bf16) (W : Vec F S8192x2560 .i8) (S : Vec F S1x5120 .f32) (R : Vec F S256x5120 .bf16)
  (G : Vec F S1x5120 .bf16)

/-- Tile `n`'s columns of the packed weights. -/
def colsW (n : ℕ) : Vec F S8192x256 .i8 := fun y =>
  W (ix2 (n0 := 8192) (n1 := 2560) (y 0) ⟨(n * 256 + (y 1).val) % 2560, Nat.mod_lt _ (by decide)⟩)
/-- Tile `n`'s columns of the weight scales. -/
def colsS (n : ℕ) : Vec F S1x512 .f32 := fun y =>
  S (ix2 (n0 := 1) (n1 := 5120) (y 0) ⟨(n * 512 + (y 1).val) % 5120, Nat.mod_lt _ (by decide)⟩)
/-- Tile `n`'s columns of the residual. -/
def colsR (n : ℕ) : Vec F S256x512 .bf16 := fun y =>
  R (ix2 (n0 := 256) (n1 := 5120) (y 0) ⟨(n * 512 + (y 1).val) % 5120, Nat.mod_lt _ (by decide)⟩)

/-- Tile `n` of the rounded sum. -/
def roT (n : ℕ) : Vec F S256x512 .bf16 := roOf (xsOf X) (xqOf X) (colsW W n) (colsS S n) (colsR R n)
/-- The sums of squares, in 128 lanes, after tile `n`. -/
def ssT : ℕ → Vec F S256x128 .f32
  | 0 => ssOf (xsOf X) (xqOf X) (colsW W 0) (colsS S 0) (colsR R 0) k0_pay3
  | n + 1 => ssOf (xsOf X) (xqOf X) (colsW W (n + 1)) (colsS S (n + 1)) (colsR R (n + 1)) (ssT n)
/-- The tiles kept for the last step. -/
def rallT : Vec F S10x256x512 .bf16 := fun y => roT X W S R (y 0).val (ix2 (n0 := 256) (n1 := 512) (y 1) (y 2))
/-- The rounded sum, whole. -/
def roA : Vec F S256x5120 .bf16 := fun i =>
  roT X W S R ((i 1).val / 512) (ix2 (n0 := 256) (n1 := 512) (i 0) ⟨(i 1).val % 512, Nat.mod_lt _ (by decide)⟩)
/-- The output codes and scales. -/
def ycA : Vec F S256x5120 .fp8e4m3 := ycOf (ssT X W S R 9) (rallT X W S R) G
def ysA : Vec F S256x1 .f32 := ysOf (ssT X W S R 9) (rallT X W S R) G
end Arrays

variable (m : (ℓ : Loc nD τ sig) → Buf (Elt F) ℓ) (ρ : Dev nD → PrngReg)

/-- Input window 0's block is the whole array `main_v0`. -/
theorem iblk0 (c : Dev nD) (t : Fin cfg0.N) : iblk m c 0 t = V m c main_v0 := by
  have e : ∀ t : Fin grid0.N, ∀ a, win0_0.index t a = 0 := by decide +kernel
  funext y
  blk_simp [iblk, e]
  exact congrArg (V m c main_v0) (by blk_ext [e])

/-- Input window 4's block is the whole array `main_v3`. -/
theorem iblk4 (c : Dev nD) (t : Fin cfg0.N) : iblk m c 4 t = V m c main_v3 := by
  have e : ∀ t : Fin grid0.N, ∀ a, win0_4.index t a = 0 := by decide +kernel
  funext y
  blk_simp [iblk, e]
  exact congrArg (V m c main_v3) (by blk_ext [e])

/-- Input window 1's block at point `t` is tile `t`'s columns of `main_arg1`. -/
theorem iblk1 (c : Dev nD) (t : Fin cfg0.N) : iblk m c 1 t = colsW (V m c main_arg1) t.val := by
  have e0 : ∀ t : Fin grid0.N, win0_1.index t 0 = 0 := by decide +kernel
  have e1 : ∀ t : Fin grid0.N, win0_1.index t 1 = t.val := by decide +kernel
  have ht := Nat.lt_of_lt_of_eq t.isLt N_0
  funext y
  have hy : (y 1).val < 256 := (y 1).isLt
  unfold colsW
  blk_simp [iblk]
  refine congrArg (V m c main_arg1) (funext fun a => Fin.ext ?_)
  match a with
  | ⟨0, _⟩ => blk_simp; rw [e0 t]; first | done | (show 0 * _ + (y 0).val = (y 0).val; omega)
  | ⟨1, _⟩ => blk_simp; rw [e1 t]; show t.val * 256 + (y 1).val = (t.val * 256 + (y 1).val) % 2560; omega

/-- Input window 2's block at point `t` is tile `t`'s columns of `main_v1`. -/
theorem iblk2 (c : Dev nD) (t : Fin cfg0.N) : iblk m c 2 t = colsS (V m c main_v1) t.val := by
  have e0 : ∀ t : Fin grid0.N, win0_2.index t 0 = 0 := by decide +kernel
  have e1 : ∀ t : Fin grid0.N, win0_2.index t 1 = t.val := by decide +kernel
  have ht := Nat.lt_of_lt_of_eq t.isLt N_0
  funext y
  have hy : (y 1).val < 512 := (y 1).isLt
  unfold colsS
  blk_simp [iblk]
  refine congrArg (V m c main_v1) (funext fun a => Fin.ext ?_)
  match a with
  | ⟨0, _⟩ => blk_simp; rw [e0 t]; first | done | (show 0 * _ + (y 0).val = (y 0).val; omega)
  | ⟨1, _⟩ => blk_simp; rw [e1 t]; show t.val * 512 + (y 1).val = (t.val * 512 + (y 1).val) % 5120; omega

/-- Input window 3's block at point `t` is tile `t`'s columns of `main_v2`. -/
theorem iblk3 (c : Dev nD) (t : Fin cfg0.N) : iblk m c 3 t = colsR (V m c main_v2) t.val := by
  have e0 : ∀ t : Fin grid0.N, win0_3.index t 0 = 0 := by decide +kernel
  have e1 : ∀ t : Fin grid0.N, win0_3.index t 1 = t.val := by decide +kernel
  have ht := Nat.lt_of_lt_of_eq t.isLt N_0
  funext y
  have hy : (y 1).val < 512 := (y 1).isLt
  unfold colsR
  blk_simp [iblk]
  refine congrArg (V m c main_v2) (funext fun a => Fin.ext ?_)
  match a with
  | ⟨0, _⟩ => blk_simp; rw [e0 t]; first | done | (show 0 * _ + (y 0).val = (y 0).val; omega)
  | ⟨1, _⟩ => blk_simp; rw [e1 t]; show t.val * 512 + (y 1).val = (t.val * 512 + (y 1).val) % 5120; omega

theorem pt_lt (n : ℕ) (h : n < 10) : (pt n).val = n := Nat.mod_eq_of_lt h

/-- The named contents are the functions above of the arrays. -/
theorem xsF_eq (c : Dev nD) : xsF m c = xsOf (V m c main_v0) := by unfold xsF; rw [iblk0]
theorem xcF_eq (c : Dev nD) : xcF m c = xcOf (V m c main_v0) := by unfold xcF; rw [iblk0]
theorem xqF_eq (c : Dev nD) : xqF m c = xqOf (V m c main_v0) := by unfold xqF; rw [iblk0]
theorem roF_eq (c : Dev nD) (t : Fin cfg0.N) :
    roF m c t = roT (V m c main_v0) (V m c main_arg1) (V m c main_v1) (V m c main_v2) t.val := by
  unfold roF roT; rw [xsF_eq, xqF_eq, iblk1, iblk2, iblk3]
theorem ssF_eq (c : Dev nD) (n : ℕ) (h : n < 10) :
    ssF m c n = ssT (V m c main_v0) (V m c main_arg1) (V m c main_v1) (V m c main_v2) n := by
  induction n with
  | zero => unfold ssF ssT; rw [xsF_eq, xqF_eq, iblk1, iblk2, iblk3, pt_lt 0 h]
  | succ n ih => unfold ssF ssT; rw [xsF_eq, xqF_eq, iblk1, iblk2, iblk3, pt_lt (n + 1) h, ih (by omega)]
theorem rallF_eq (c : Dev nD) :
    rallF m c = rallT (V m c main_v0) (V m c main_arg1) (V m c main_v1) (V m c main_v2) := by
  funext y
  have hy : (y 0).val < 10 := (y 0).isLt
  unfold rallF rallT
  rw [roF_eq, pt_lt _ hy]

/-- Result 1, the rounded sum: point `t` writes tile `t`. -/
theorem final5 (c : Dev nD) : (dats m 0 c).arrAt 5 cfg0.N
    = roA (V m c main_v0) (V m c main_arg1) (V m c main_v1) (V m c main_v2) := by
  refine (dats m 0 c).arrAt_eq_of_covers 5 _ (by decide +kernel) fun t hf y => ?_
  have e0 : ∀ t : Fin grid0.N, win0_5.index t 0 = 0 := by decide +kernel
  have e1 : ∀ t : Fin grid0.N, win0_5.index t 1 = t.val := by decide +kernel
  have hy : (y 1).val < 512 := (y 1).isLt
  have h0 : (((win0_5.blk t).view.emb y) 0).val = (y 0).val := by
    blk_simp; rw [e0 t]; first | done | (show 0 * _ + (y 0).val = (y 0).val; omega)
  have h1 : (((win0_5.blk t).view.emb y) 1).val = t.val * 512 + (y 1).val := by
    blk_simp; rw [e1 t]; first | done | rfl
  show (dats m 0 c).after 5 t y = _
  rw [after0_5, roF_eq]
  show _ = roA _ _ _ _ ((win0_5.blk t).view.emb y)
  unfold roA
  have h2 : (((win0_5.blk t).view.emb y) 1).val / 512 = t.val := by omega
  rw [h2]
  refine congrArg _ (funext fun a => Fin.ext ?_)
  match a with
  | ⟨0, _⟩ => exact h0.symm
  | ⟨1, _⟩ => show (y 1).val = (((win0_5.blk t).view.emb y) 1).val % 512; omega

/-- Result 2, the int8 codes of the rows. -/
theorem final6 (c : Dev nD) : (dats m 0 c).arrAt 6 cfg0.N = xcOf (V m c main_v0) := by
  refine (dats m 0 c).arrAt_eq_of_covers 6 _ (by decide +kernel) fun t hf y => ?_
  have e : ∀ t : Fin grid0.N, ∀ a, win0_6.index t a = 0 := by decide +kernel
  blk_simp
  rw [after0_6]
  rw [xcF_eq]
  exact congrArg _ (by blk_ext [e])

/-- Result 3, the row scales. -/
theorem final7 (c : Dev nD) : (dats m 0 c).arrAt 7 cfg0.N = xsOf (V m c main_v0) := by
  refine (dats m 0 c).arrAt_eq_of_covers 7 _ (by decide +kernel) fun t hf y => ?_
  have e : ∀ t : Fin grid0.N, ∀ a, win0_7.index t a = 0 := by decide +kernel
  blk_simp
  rw [after0_7]
  rw [xsF_eq]
  exact congrArg _ (by blk_ext [e])

/-- Result 4, the output codes. -/
theorem final8 (c : Dev nD) : (dats m 0 c).arrAt 8 cfg0.N = ycA (V m c main_v0) (V m c main_arg1) (V m c main_v1) (V m c main_v2) (V m c main_v3) := by
  refine (dats m 0 c).arrAt_eq_of_covers 8 _ (by decide +kernel) fun t hf y => ?_
  have e : ∀ t : Fin grid0.N, ∀ a, win0_8.index t a = 0 := by decide +kernel
  blk_simp
  rw [after0_8]
  unfold ycF ycA; rw [ssF_eq m c 9 (by decide), rallF_eq, iblk4]
  exact congrArg _ (by blk_ext [e])

/-- Result 5, the output scales. -/
theorem final9 (c : Dev nD) : (dats m 0 c).arrAt 9 cfg0.N = ysA (V m c main_v0) (V m c main_arg1) (V m c main_v1) (V m c main_v2) (V m c main_v3) := by
  refine (dats m 0 c).arrAt_eq_of_covers 9 _ (by decide +kernel) fun t hf y => ?_
  have e : ∀ t : Fin grid0.N, ∀ a, win0_9.index t a = 0 := by decide +kernel
  blk_simp
  rw [after0_9]
  unfold ysF ysA; rw [ssF_eq m c 9 (by decide), rallF_eq, iblk4]
  exact congrArg _ (by blk_ext [e])

/-- THE RUN: every result named, the arguments as launched. -/
theorem run : θ_run defs (onTc (τ := τ) (main (F := F))) ⟨m, fun _ => 0, ρ⟩ fun r => ∀ c : Dev nD,
      r.2.mem ((c : Thread nD τ).loc main_v4_0) = roA (V m c main_v0) (V m c main_arg1) (V m c main_v1) (V m c main_v2)
      ∧ r.2.mem ((c : Thread nD τ).loc main_v4_1) = xcOf (V m c main_v0)
      ∧ r.2.mem ((c : Thread nD τ).loc main_v4_2) = xsOf (V m c main_v0)
      ∧ r.2.mem ((c : Thread nD τ).loc main_v4_3) = ycA (V m c main_v0) (V m c main_arg1) (V m c main_v1) (V m c main_v2) (V m c main_v3)
      ∧ r.2.mem ((c : Thread nD τ).loc main_v4_4) = ysA (V m c main_v0) (V m c main_arg1) (V m c main_v1) (V m c main_v2) (V m c main_v3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c), ((h c).1 6).trans (final6 m c),
      ((h c).1 7).trans (final7 m c), ((h c).1 8).trans (final8 m c), ((h c).1 9).trans (final9 m c),
      ((h c).2 main_arg0 (Pipeline.mem_restRefs_of main_arg0 (by decide) (by decide))).trans (V_main_arg0 m c),
      (((h c).1 1).trans ((dats m 0 c).arrAt_in 1 rfl _)).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Own
-- ==== Proof.RIValue.lean ====
module

public import proofs.«01_k».proof.Proof.Gen.ReferenceIdeal.Frame
public import Idealize.ShloMosaic.Lib.Pipeline.ValueKit

@[expose] public section

noncomputable section

/-! # The five arrays the reference leaves

The reference is one region of one grid point over whole arrays, so each result is the body's payload of the arrays
that the host operations hand it. -/

namespace Cert.ReferenceIdeal.Own

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The single grid point. -/
def pt0 : Fin cfg0.N := ⟨0, by decide +kernel⟩

/-- Input window 0's block is the whole array `main_v0`. -/
theorem iblk0 (c : Dev nD) (t : Fin cfg0.N) : iblk m c 0 t = V m c main_v0 := by
  have e : ∀ t : Fin grid0.N, ∀ a, win0_0.index t a = 0 := by decide +kernel
  funext y
  blk_simp [iblk, e]
  exact congrArg (V m c main_v0) (by blk_ext [e])

/-- Input window 1's block is the whole array `main_v15`. -/
theorem iblk1 (c : Dev nD) (t : Fin cfg0.N) : iblk m c 1 t = V m c main_v15 := by
  have e : ∀ t : Fin grid0.N, ∀ a, win0_1.index t a = 0 := by decide +kernel
  funext y
  blk_simp [iblk, e]
  exact congrArg (V m c main_v15) (by blk_ext [e])

/-- Input window 2's block is the whole array `main_v16`. -/
theorem iblk2 (c : Dev nD) (t : Fin cfg0.N) : iblk m c 2 t = V m c main_v16 := by
  have e : ∀ t : Fin grid0.N, ∀ a, win0_2.index t a = 0 := by decide +kernel
  funext y
  blk_simp [iblk, e]
  exact congrArg (V m c main_v16) (by blk_ext [e])

/-- Input window 3's block is the whole array `main_v17`. -/
theorem iblk3 (c : Dev nD) (t : Fin cfg0.N) : iblk m c 3 t = V m c main_v17 := by
  have e : ∀ t : Fin grid0.N, ∀ a, win0_3.index t a = 0 := by decide +kernel
  funext y
  blk_simp [iblk, e]
  exact congrArg (V m c main_v17) (by blk_ext [e])

/-- Input window 4's block is the whole array `main_v18`. -/
theorem iblk4 (c : Dev nD) (t : Fin cfg0.N) : iblk m c 4 t = V m c main_v18 := by
  have e : ∀ t : Fin grid0.N, ∀ a, win0_4.index t a = 0 := by decide +kernel
  funext y
  blk_simp [iblk, e]
  exact congrArg (V m c main_v18) (by blk_ext [e])

/-- Result 1, the rounded sum, after the run. -/
theorem final5 (c : Dev nD) : (dats m 0 c).arrAt 5 cfg0.N = (k0_pay5 (V m c main_v0) (V m c main_v15) (V m c main_v16) (V m c main_v17)) := by
  refine (dats m 0 c).arrAt_eq_of_covers 5 _ (by decide +kernel) fun t hf y => ?_
  have e : ∀ t : Fin grid0.N, ∀ a, win0_5.index t a = 0 := by decide +kernel
  blk_simp
  rw [after0_5]
  unfold out0_5 k0_pay10
  frame_out
  rw [iblk0, iblk1, iblk2, iblk3]
  exact congrArg _ (by blk_ext [e])

/-- Result 2, the int8 codes of the rows, after the run. -/
theorem final6 (c : Dev nD) : (dats m 0 c).arrAt 6 cfg0.N = k0_pay4 (V m c main_v0) := by
  refine (dats m 0 c).arrAt_eq_of_covers 6 _ (by decide +kernel) fun t hf y => ?_
  have e : ∀ t : Fin grid0.N, ∀ a, win0_6.index t a = 0 := by decide +kernel
  blk_simp
  rw [after0_6]
  unfold out0_6
  frame_out
  rw [iblk0]
  exact congrArg _ (by blk_ext [e])

/-- Result 3, the row scales, after the run. -/
theorem final7 (c : Dev nD) : (dats m 0 c).arrAt 7 cfg0.N = k0_pay3 (V m c main_v0) := by
  refine (dats m 0 c).arrAt_eq_of_covers 7 _ (by decide +kernel) fun t hf y => ?_
  have e : ∀ t : Fin grid0.N, ∀ a, win0_7.index t a = 0 := by decide +kernel
  blk_simp
  rw [after0_7]
  unfold out0_7
  frame_out
  rw [iblk0]
  exact congrArg _ (by blk_ext [e])

/-- Result 4, the output codes, after the run. -/
theorem final8 (c : Dev nD) : (dats m 0 c).arrAt 8 cfg0.N = k0_pay1 (k0_pay9 (k0_pay5 (V m c main_v0) (V m c main_v15) (V m c main_v16) (V m c main_v17)) (V m c main_v18)) (Scalar.ofBits .f32 0xC3E00000#32) := by
  refine (dats m 0 c).arrAt_eq_of_covers 8 _ (by decide +kernel) fun t hf y => ?_
  have e : ∀ t : Fin grid0.N, ∀ a, win0_8.index t a = 0 := by decide +kernel
  blk_simp
  rw [after0_8]
  unfold out0_8 k0_pay10
  frame_out
  rw [iblk0, iblk1, iblk2, iblk3, iblk4]
  exact congrArg _ (by blk_ext [e])

/-- Result 5, the output scales, after the run. -/
theorem final9 (c : Dev nD) : (dats m 0 c).arrAt 9 cfg0.N = k0_pay8 (k0_pay5 (V m c main_v0) (V m c main_v15) (V m c main_v16) (V m c main_v17)) (V m c main_v18) := by
  refine (dats m 0 c).arrAt_eq_of_covers 9 _ (by decide +kernel) fun t hf y => ?_
  have e : ∀ t : Fin grid0.N, ∀ a, win0_9.index t a = 0 := by decide +kernel
  blk_simp
  rw [after0_9]
  unfold out0_9 k0_pay10
  frame_out
  rw [iblk0, iblk1, iblk2, iblk3, iblk4]
  exact congrArg _ (by blk_ext [e])

/-- THE RUN: every result named, the arguments as launched. -/
theorem run : θ_run defs (onTc (τ := τ) (main (F := F))) ⟨m, fun _ => 0, ρ⟩ fun r => ∀ c : Dev nD,
      r.2.mem ((c : Thread nD τ).loc main_v19_0) = (k0_pay5 (V m c main_v0) (V m c main_v15) (V m c main_v16) (V m c main_v17))
      ∧ r.2.mem ((c : Thread nD τ).loc main_v19_1) = k0_pay4 (V m c main_v0)
      ∧ r.2.mem ((c : Thread nD τ).loc main_v19_2) = k0_pay3 (V m c main_v0)
      ∧ r.2.mem ((c : Thread nD τ).loc main_v19_3) = k0_pay1 (k0_pay9 (k0_pay5 (V m c main_v0) (V m c main_v15) (V m c main_v16) (V m c main_v17)) (V m c main_v18)) (Scalar.ofBits .f32 0xC3E00000#32)
      ∧ r.2.mem ((c : Thread nD τ).loc main_v19_4) = k0_pay8 (k0_pay5 (V m c main_v0) (V m c main_v15) (V m c main_v16) (V m c main_v17)) (V m c main_v18)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c), ((h c).1 6).trans (final6 m c),
      ((h c).1 7).trans (final7 m c), ((h c).1 8).trans (final8 m c), ((h c).1 9).trans (final9 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.ReferenceIdeal.Own
-- ==== Proof.HostK.lean ====
/- What the kernel program's host operations hand its kernel: the arguments reshaped. -/
module

public import proofs.«01_k».proof.Proof.KIValue
public import Idealize.ShloMosaic.Lib.Claim
public import Idealize.ShloMosaic.Lib.Pointwise

@[expose] public section

set_option maxRecDepth 16384

noncomputable section

namespace Cert.Eq

open Idealize.ShloMosaic

open Cert.KernelIdeal.Gen Cert.KernelIdeal
variable (m : (ℓ : Loc nD τ sig) → Buf (Elt Ideal) ℓ)

theorem k_v0 (c : Dev nD) : V m c main_v0 = shapeCast S256x8192 (m (c, Proc.tc.devRef main_arg0)) shapeCasts_S2x128x8192_S256x8192 := by
  unfold V
  simp only [hostOps0]
  after_results
  rfl
theorem k_v1 (c : Dev nD) : V m c main_v1 = shapeCast S1x5120 (m (c, Proc.tc.devRef main_arg2)) shapeCasts_S5120_S1x5120 := by
  unfold V
  simp only [hostOps0]
  after_results
  rfl
theorem k_v2 (c : Dev nD) : V m c main_v2 = shapeCast S256x5120 (m (c, Proc.tc.devRef main_arg3)) shapeCasts_S2x128x5120_S256x5120 := by
  unfold V
  simp only [hostOps0]
  after_results
  rfl
theorem k_v3 (c : Dev nD) : V m c main_v3 = shapeCast S1x5120 (m (c, Proc.tc.devRef main_arg4)) shapeCasts_S5120_S1x5120 := by
  unfold V
  simp only [hostOps0]
  after_results
  rfl
end Cert.Eq
-- ==== Proof.EqNib.lean ====
/- The signed value of a nibble: sixteen times it is the byte the kernel multiplies by. -/
module

public import Idealize.ShloMosaic.Lib.Pointwise

@[expose] public section

set_option maxRecDepth 16384

noncomputable section

namespace Cert.Eq

open Idealize.ShloMosaic

/-- The nibble of byte `b` at position `odd`, as the reference spells it: widened, masked or shifted, and brought below 8. -/
def nib32 (b : BitVec 8) (odd : Bool) : BitVec 32 :=
  let n : BitVec 32 := if odd then (b.setWidth 32).sshiftRight 4 else b.setWidth 32 &&& 15#32
  if (8 : ℤ) ≤ n.toInt then n - 16#32 else n

theorem lo_nib (b : BitVec 8) : ((b <<< 4) &&& 0xF0#8).toInt = 16 * (nib32 b false).toInt := by
  revert b; decide +kernel
theorem hi_nib (b : BitVec 8) : (b &&& 0xF0#8).toInt = 16 * (nib32 b true).toInt := by
  revert b; decide +kernel

/-- A sum of products of reals, each second factor sixteen times another, is a sixteenth of nothing more. -/
theorem dot16 {n : ℕ} (a : Fin n → EReal) (a' b : Fin n → ℝ) (ha : ∀ k, a k = ((a' k : ℝ) : EReal)) :
    (∑ k, a k * ((16 * b k : ℝ) : EReal)) * ((1 / 16 : ℝ) : EReal) = ∑ k, a k * ((b k : ℝ) : EReal) := by
  have e0 : ∀ (f : Fin n → ℝ) (s : Finset (Fin n)), (∑ k ∈ s, ((f k : ℝ) : EReal)) = ((∑ k ∈ s, f k : ℝ) : EReal) := by
    intro f s
    induction s using Finset.induction_on with
    | empty => simp
    | insert a s h ih => rw [Finset.sum_insert h, Finset.sum_insert h, ih, EReal.coe_add]
  have e1 : ∀ f : Fin n → ℝ, (∑ k, ((f k : ℝ) : EReal)) = ((∑ k, f k : ℝ) : EReal) := fun f => e0 f _
  simp only [ha, ← EReal.coe_mul, e1]
  congr 1
  rw [Finset.sum_mul]
  exact Finset.sum_congr rfl fun k _ => by ring

end Cert.Eq
-- ==== Proof.HostR.lean ====
/- What the reference's host operations hand its kernel: the weights unpacked, the other arguments reshaped. -/
module

public import proofs.«01_k».proof.Proof.RIValue
public import proofs.«01_k».proof.Proof.EqNib
public import Idealize.ShloMosaic.Lib.Claim
public import Idealize.ShloMosaic.Lib.Pointwise

@[expose] public section

set_option maxRecDepth 16384

noncomputable section

namespace Cert.Eq

open Idealize.ShloMosaic

open Cert.ReferenceIdeal.Gen Cert.ReferenceIdeal
variable (m : (ℓ : Loc nD τ sig) → Buf (Elt Ideal) ℓ)

theorem spelled_lo (b : BitVec 8) : Scalar.select (IntOp.cmpi .sge (IntOp.andi (BitVec.setWidth 32 b) 15#32) 8#32)
    (IntOp.subi (IntOp.andi (BitVec.setWidth 32 b) 15#32) 16#32) (IntOp.andi (BitVec.setWidth 32 b) 15#32) = nib32 b false := by
  revert b; decide +kernel
theorem spelled_hi (b : BitVec 8) : Scalar.select (IntOp.cmpi .sge (IntOp.shrsi ArithUnit.host (BitVec.setWidth 32 b) 4#32) 8#32)
    (IntOp.subi (IntOp.shrsi ArithUnit.host (BitVec.setWidth 32 b) 4#32) 16#32) (IntOp.shrsi ArithUnit.host (BitVec.setWidth 32 b) 4#32)
      = nib32 b true := by
  revert b; decide +kernel

/-- The weight at row `k`, column `j`: the signed nibble `j % 2` of the packed byte at column `j / 2`. -/
theorem r_weight (c : Dev nD) (k : Fin 8192) (j : Fin 5120) : V m c main_v15 (ix2 k j) =
    FloatOps.sitofp (F := Ideal) FTy.bf16 (nib32 (m (c, Proc.tc.devRef main_arg1) (ix2 k ⟨j.val / 2, by omega⟩)) (decide (j.val % 2 = 1))) := by
  unfold V
  simp only [hostOps0, hostOps0_1, hostOps0_2, List.flatten_cons, List.flatten_nil, List.append_nil, List.cons_append, List.nil_append]
  after_results
  pointwise
  simp only [StableHlo.TRef.toBuf, StableHlo.TRef.ofBuf, cast_eq]
  pointwise
  congr 1
  by_cases h : j.val % 2 = 1
  · have h1 : ¬ j.val % 2 < 1 := by omega
    simp only [h1, h, dite_false, decide_true]
    exact spelled_hi _
  · have h1 : j.val % 2 < 1 := by omega
    simp only [h1, h, dite_true, decide_false]
    exact spelled_lo _
theorem r_v0 (c : Dev nD) : V m c main_v0 = shapeCast S256x8192 (m (c, Proc.tc.devRef main_arg0)) shapeCasts_S2x128x8192_S256x8192 := by
  unfold V
  simp only [hostOps0, hostOps0_1, hostOps0_2, List.flatten_cons, List.flatten_nil, List.append_nil, List.cons_append, List.nil_append]
  after_results
  rfl
theorem r_v16 (c : Dev nD) : V m c main_v16 = shapeCast S1x5120 (m (c, Proc.tc.devRef main_arg2)) shapeCasts_S5120_S1x5120 := by
  unfold V
  simp only [hostOps0, hostOps0_1, hostOps0_2, List.flatten_cons, List.flatten_nil, List.append_nil, List.cons_append, List.nil_append]
  after_results
  rfl
theorem r_v17 (c : Dev nD) : V m c main_v17 = shapeCast S256x5120 (m (c, Proc.tc.devRef main_arg3)) shapeCasts_S2x128x5120_S256x5120 := by
  unfold V
  simp only [hostOps0, hostOps0_1, hostOps0_2, List.flatten_cons, List.flatten_nil, List.append_nil, List.cons_append, List.nil_append]
  after_results
  rfl
theorem r_v18 (c : Dev nD) : V m c main_v18 = shapeCast S1x5120 (m (c, Proc.tc.devRef main_arg4)) shapeCasts_S5120_S1x5120 := by
  unfold V
  simp only [hostOps0, hostOps0_1, hostOps0_2, List.flatten_cons, List.flatten_nil, List.append_nil, List.cons_append, List.nil_append]
  after_results
  rfl
end Cert.Eq
-- ==== Proof.EqPre.lean ====
/- The precondition on the norm's weights, read off the predicate. -/
module

public import proofs.«01_k».proof.Proof.KIValue
public import proofs.«01_k».proof.Proof.HostK
public import proofs.«01_k».proof.Defs
public import proofs.«01_k».proof.Proof.Gen.Pre_gamma_finite
public import Idealize.ShloMosaic.Lib.Pointwise

@[expose] public section

set_option maxRecDepth 16384

noncomputable section

namespace Cert.Eq

open Idealize.ShloMosaic

open Cert.KernelIdeal.Gen Cert.KernelIdeal

variable (m : (ℓ : Loc nD τ sig) → Buf (Elt Ideal) ℓ)

theorem pre_at (a0 : FVec Ideal Cert.Pre_gamma_finite.S2x128x8192 .bf16) (a1 : IVec Cert.Pre_gamma_finite.S8192x2560 8) (a2 : FVec Ideal Cert.Pre_gamma_finite.S5120 .f32)
    (a3 : FVec Ideal Cert.Pre_gamma_finite.S2x128x5120 .bf16) (a4 : FVec Ideal Cert.Pre_gamma_finite.S5120 .bf16) (j : Fin 5120)
    (h : Cert.Pre_gamma_finite.fn (F := Ideal) a0 a1 a2 a3 a4 (ix1 j) = 1#1) :
    (FloatOps.absf (F := Ideal) (φ := .f32) (a4 (ix1 j)) : EReal) ≤ Ideal.ofBits FTy.f32 0x7F7F0000#32 := by
  unfold Cert.Pre_gamma_finite.fn at h
  revert h
  pointwise
  intro h
  have e : ∀ b : Bool, BitVec.ofBool b = 1#1 → b = true := by decide
  first | exact of_decide_eq_true (e _ h) | exact h

theorem addRow_at (a : Vec Ideal S5120 .bf16) (j : Fin 5120) : shapeCast S1x5120 a shapeCasts_S5120_S1x5120 (ix2 0 j) = a (ix1 j) := by
  pointwise

theorem gamma_at (c : Dev nD) (j : Fin 5120) : (V m c main_v3 : Vec Ideal S1x5120 .bf16) (ix2 0 j) = (m (c, Proc.tc.devRef main_arg4) : Vec Ideal S5120 .bf16) (ix1 j) := by
  rw [k_v3]
  exact addRow_at _ j

/-- Under the precondition every weight of the norm is within the finite numbers of its format. -/
theorem gamma_le (hpre : Pre_KernelIdeal_gamma_finite m) (c : Dev nD) (j : Fin 5120) :
    (FloatOps.absf (F := Ideal) (φ := .f32) ((V m c main_v3 : Vec Ideal S1x5120 .bf16) (ix2 0 j)) : EReal) ≤ Ideal.ofBits FTy.f32 0x7F7F0000#32 := by
  rw [gamma_at]
  exact pre_at _ _ _ _ _ j (congrFun (hpre c) (ix1 j))

end Cert.Eq
-- ==== Proof.EqDefs.lean ====
/- Row scales and codes of the activations over the extended reals: what one row's values are, for any number of rows. -/
module

public import Idealize.ShloMosaic.Lib.Pointwise

@[expose] public section

set_option maxRecDepth 16384

noncomputable section

namespace Cert.Eq

open Idealize.ShloMosaic

/-- The largest absolute value of a row. -/
def rowMax {n : ℕ} (f : Fin n → EReal) : EReal :=
  Finset.fold max (Ideal.ofBits .f32 0xFF800000#32) (fun c => (FloatOps.absf (F := Ideal) (φ := .f32) (f c) : EReal)) Finset.univ

/-- The scale of a row of activations. -/
def scl (f : Fin 8192 → EReal) : EReal :=
  if rowMax f = 0 then 1 else Ideal.div (rowMax f) (Ideal.ofBits .f32 0x42FE0000#32)

/-- One activation divided by its scale, rounded and clipped to 127. -/
def quant (a s : EReal) : EReal :=
  min (Ideal.ofBits .f32 0x42FE0000#32) (max (Ideal.ofBits .f32 0xC2FE0000#32) (Ideal.liftRound Ideal.roundHalfEven (Ideal.div a s)))

end Cert.Eq
-- ==== Proof.EqRowsK.lean ====
/- The kernel's bands of 32 rows: their scales and codes, entry by entry. -/
module

public import proofs.«01_k».proof.Proof.KIVals
public import proofs.«01_k».proof.Proof.EqDefs
public import Idealize.ShloMosaic.Lib.Pointwise

@[expose] public section

set_option maxRecDepth 16384

noncomputable section

namespace Cert.Eq

open Idealize.ShloMosaic

open Cert.KernelIdeal.Gen Cert.KernelIdeal

theorem k_scale (v : Vec Ideal S32x8192 .bf16) (p : Fin 32) : k0_pay5 (F := Ideal) v (ix2 p 0) = scl fun c => v (ix2 p c) := by
  unfold k0_pay5 k0_pay4
  pointwise
  rfl

theorem k_quant (v : Vec Ideal S32x8192 .bf16) (p : Fin 32) (c : Fin 8192) :
    k0_pay8 (F := Ideal) v (ix2 p c) = quant (v (ix2 p c)) (scl fun c => v (ix2 p c)) := by
  rw [← k_scale]
  unfold k0_pay8 k0_pay6 k0_pay4
  pointwise
  rfl

theorem k_code (v : Vec Ideal S32x8192 .bf16) (p : Fin 32) (c : Fin 8192) :
    k0_pay7 (F := Ideal) v (ix2 p c) = FloatOps.fptosi (F := Ideal) (φ := .f32) 8 (quant (v (ix2 p c)) (scl fun c => v (ix2 p c))) := by
  rw [← k_scale]
  unfold k0_pay7 k0_pay6 k0_pay4
  pointwise
  rfl

end Cert.Eq
-- ==== Proof.EqRowsR.lean ====
/- The reference's rows: their scales and codes, entry by entry. -/
module

public import proofs.«01_k».proof.Proof.Gen.ReferenceIdeal.Skeleton
public import proofs.«01_k».proof.Proof.EqDefs
public import Idealize.ShloMosaic.Lib.Pointwise

@[expose] public section

set_option maxRecDepth 16384

noncomputable section

namespace Cert.Eq

open Idealize.ShloMosaic

open Cert.ReferenceIdeal.Gen Cert.ReferenceIdeal

theorem r_scale (x : Vec Ideal S256x8192 .bf16) (p : Fin 256) : k0_pay3 (F := Ideal) x (ix2 p 0) = scl fun c => x (ix2 p c) := by
  unfold k0_pay3 k0_pay2
  pointwise
  rfl

theorem r_code (x : Vec Ideal S256x8192 .bf16) (p : Fin 256) (c : Fin 8192) :
    k0_pay4 (F := Ideal) x (ix2 p c) = FloatOps.fptosi (F := Ideal) (φ := .f32) 8 (quant (x (ix2 p c)) (scl fun c => x (ix2 p c))) := by
  rw [← r_scale]
  unfold k0_pay4 k0_pay2
  pointwise
  rfl

end Cert.Eq
-- ==== Proof.EqLit.lean ====
/- The float literals of the two programs as real numbers. -/
module

public import Idealize.ShloMosaic.Lib.Pointwise

@[expose] public section

set_option maxRecDepth 16384

noncomputable section

namespace Cert.Eq

open Idealize.ShloMosaic

theorem lit_neg_inf : Ideal.ofBits .f32 0xFF800000#32 = (⊥ : EReal) := by
  simp [Ideal.ofBits, Ideal.ieee]
theorem lit_127 : Ideal.ofBits .f32 0x42FE0000#32 = ((127 : ℝ) : EReal) := by
  simp [Ideal.ofBits, Ideal.ieee]; rw [← EReal.coe_mul]; norm_num
theorem lit_n127 : Ideal.ofBits .f32 0xC2FE0000#32 = ((-127 : ℝ) : EReal) := by
  simp [Ideal.ofBits, Ideal.ieee]; rw [← EReal.coe_mul]; norm_num
theorem lit_n126 : Ideal.ofBits .f32 0xC2FC0000#32 = ((-126 : ℝ) : EReal) := by
  simp [Ideal.ofBits, Ideal.ieee]; rw [← EReal.coe_mul]; norm_num
theorem lit_16th : Ideal.ofBits .f32 0x3D800000#32 = ((1 / 16 : ℝ) : EReal) := by
  simp [Ideal.ofBits, Ideal.ieee]; rw [← EReal.coe_mul]; norm_num
theorem lit_2 : Ideal.ofBits .f32 0x40000000#32 = ((2 : ℝ) : EReal) := by
  simp [Ideal.ofBits, Ideal.ieee]; rw [← EReal.coe_mul]; norm_num
theorem lit_5120 : Ideal.ofBits .f32 0x45A00000#32 = ((5120 : ℝ) : EReal) := by
  simp [Ideal.ofBits, Ideal.ieee]; rw [← EReal.coe_mul]; norm_num
theorem lit_eps : Ideal.ofBits .f32 0x358637BD#32 = ((8796093 * 2 ^ (-43 : ℤ) : ℝ) : EReal) := by
  simp [Ideal.ofBits, Ideal.ieee]
theorem lit_448th : Ideal.ofBits .f32 0x3B124925#32 = ((9586981 * 2 ^ (-32 : ℤ) : ℝ) : EReal) := by
  simp [Ideal.ofBits, Ideal.ieee]

theorem pow_fields (k : Fin 256) : (BitVec.ofNat 32 k.val <<< 23).extractLsb' 31 1 = 0#1 ∧
    ((BitVec.ofNat 32 k.val <<< 23).extractLsb' 23 8).toNat = k.val ∧ ((BitVec.ofNat 32 k.val <<< 23).extractLsb' 0 23).toNat = 0 := by
  revert k; decide +kernel

theorem ieee_pow (b : BitVec 32) (k : ℕ) (a : b.extractLsb' 31 1 = 0#1) (hb : (b.extractLsb' 23 8).toNat = k)
    (c : (b.extractLsb' 0 23).toNat = 0) (h3 : k ≠ 255) (h4 : k ≠ 0) :
    Ideal.ieee 8 23 b = (((2 : ℝ) ^ ((k : ℤ) - 127) : ℝ) : EReal) := by
  have e : ((1 : ℝ) * ((2 ^ 23 + 0 : ℕ) : ℝ) * (2 : ℝ) ^ ((k : ℤ) - (2 ^ (8 - 1) - 1) - (23 : ℕ))) = (2 : ℝ) ^ ((k : ℤ) - 127) := by
    rw [show ((2 ^ 23 + 0 : ℕ) : ℝ) = 2 ^ (23 : ℤ) by norm_num, one_mul, ← zpow_add₀ (by norm_num)]
    congr 1
    push_cast
    norm_num
  rw [← e]
  unfold Ideal.ieee
  simp only [Nat.reduceAdd, a, hb, c, h3, h4, Nat.reducePow, Nat.reduceSub, if_false]
  norm_num

/-- The float whose fraction is zero and whose exponent field is `k`, for `k` from 1 to 254. -/
theorem lit_pow (k : ℕ) (h1 : 1 ≤ k) (h2 : k ≤ 254) :
    Ideal.ofBits .f32 (BitVec.ofNat 32 k <<< 23) = (((2 : ℝ) ^ ((k : ℤ) - 127) : ℝ) : EReal) := by
  obtain ⟨a, b, c⟩ := pow_fields ⟨k, by omega⟩
  exact ieee_pow _ k a b c (by omega) (by omega)

theorem lit_pow_0 : Ideal.ofBits .f32 (BitVec.ofNat 32 0 <<< 23) = (0 : EReal) := by
  simp [Ideal.ofBits, Ideal.ieee]
theorem lit_pow_255 : Ideal.ofBits .f32 (BitVec.ofNat 32 255 <<< 23) = (⊤ : EReal) := by
  simp [Ideal.ofBits, Ideal.ieee]

end Cert.Eq
-- ==== Proof.EqQuant.lean ====
/- A quantised activation is a whole number between -127 and 127, so rounding it to a byte and reading it back changes nothing. -/
module

public import proofs.«01_k».proof.Proof.EqDefs
public import proofs.«01_k».proof.Proof.EqLit
public import Idealize.ShloMosaic.Lib.Pointwise

@[expose] public section

set_option maxRecDepth 16384

noncomputable section

namespace Cert.Eq

open Idealize.ShloMosaic

theorem clip_int (x : EReal) : ∃ z : ℤ, -127 ≤ z ∧ z ≤ 127 ∧
    min (((127 : ℝ) : EReal)) (max (((-127 : ℝ) : EReal)) (Ideal.liftRound Ideal.roundHalfEven x)) = ((z : ℝ) : EReal) := by
  induction x with
  | bot => exact ⟨-127, by norm_num, by norm_num, by
      show min _ (max _ (⊥ : EReal)) = _
      rw [max_eq_left bot_le, min_eq_right (by exact_mod_cast (by norm_num : (-127 : ℝ) ≤ 127))]; norm_num⟩
  | top => exact ⟨127, by norm_num, by norm_num, by
      show min _ (max _ (⊤ : EReal)) = _
      rw [max_eq_right le_top, min_eq_left le_top]; norm_num⟩
  | coe r =>
    refine ⟨min 127 (max (-127) (Ideal.roundHalfEven r)), by simp, by simp, ?_⟩
    rw [Ideal.liftRound_coe]
    push_cast
    rfl

/-- A quantised activation is a whole number between -127 and 127. -/
theorem quant_int (a s : EReal) : ∃ z : ℤ, -127 ≤ z ∧ z ≤ 127 ∧ quant a s = ((z : ℝ) : EReal) := by
  unfold quant
  rw [lit_127, lit_n127]
  exact clip_int _

theorem fptosi_int (z : ℤ) (h1 : -127 ≤ z) (h2 : z ≤ 127) :
    FloatOps.sitofp (F := Ideal) FTy.bf16 (FloatOps.fptosi (F := Ideal) (φ := .f32) 8 (((z : ℝ) : EReal))) = ((z : ℝ) : EReal) := by
  show ((((Ideal.fptosi 8 (((z : ℝ) : EReal)) : BitVec 8).toInt : ℤ) : ℝ) : EReal) = _
  have : (Ideal.fptosi 8 (((z : ℝ) : EReal)) : BitVec 8) = BitVec.ofInt 8 z := by
    unfold Ideal.fptosi
    rw [Ideal.toIntClamped_coe]
    congr 1
    have e : (if (0 : ℝ) ≤ (z : ℝ) then ⌊(z : ℝ)⌋ else ⌈(z : ℝ)⌉) = z := by split <;> simp
    rw [e]
    norm_num
    omega
  rw [this, BitVec.toInt_ofInt]
  congr 2
  rw [Int.bmod_eq_of_le] <;> omega

theorem quant_byte (a s : EReal) :
    FloatOps.sitofp (F := Ideal) FTy.bf16 (FloatOps.fptosi (F := Ideal) (φ := .f32) 8 (quant a s)) = quant a s := by
  obtain ⟨z, h1, h2, h⟩ := quant_int a s
  rw [h, fptosi_int z h1 h2]

end Cert.Eq
-- ==== Proof.EqX.lean ====
/- The activations' scales and codes over the whole array: what the kernel's bands hold is what the reference's rows hold. -/
module

public import proofs.«01_k».proof.Proof.EqRowsK
public import proofs.«01_k».proof.Proof.EqRowsR
public import proofs.«01_k».proof.Proof.EqQuant
public import Idealize.ShloMosaic.Lib.Pointwise

@[expose] public section

set_option maxRecDepth 16384

noncomputable section

namespace Cert.Eq

open Idealize.ShloMosaic

open Cert.KernelIdeal Cert.KernelIdeal.Own

variable (X : Vec Ideal S256x8192 .bf16)

theorem xRows_at (p : Fin 256) (c : Fin 8192) :
    xRows X (p.val / 32) (ix2 (⟨p.val % 32, Nat.mod_lt _ (by decide)⟩ : Fin 32) c) = X (ix2 p c) := by
  unfold xRows
  congr 1
  refine congrArg (fun a => ix2 a c) (Fin.ext ?_)
  show (32 * (p.val / 32) + p.val % 32) % 256 = p.val
  omega

theorem xs_at (p : Fin 256) : xsOf (F := Ideal) X (ix2 p 0) = scl fun c => X (ix2 p c) := by
  show Cert.KernelIdeal.Gen.k0_pay5 (F := Ideal) (xRows X (p.val / 32)) (ix2 (⟨p.val % 32, Nat.mod_lt _ (by decide)⟩ : Fin 32) 0) = _
  rw [k_scale]
  exact congrArg scl (funext fun c => xRows_at X p c)

theorem xc_at (p : Fin 256) (c : Fin 8192) : xcOf (F := Ideal) X (ix2 p c) =
    FloatOps.fptosi (F := Ideal) (φ := .f32) 8 (quant (X (ix2 p c)) (scl fun c => X (ix2 p c))) := by
  show Cert.KernelIdeal.Gen.k0_pay7 (F := Ideal) (xRows X (p.val / 32)) (ix2 (⟨p.val % 32, Nat.mod_lt _ (by decide)⟩ : Fin 32) c) = _
  rw [k_code]
  simp only [xRows_at]

theorem xq_at (p : Fin 256) (c : Fin 8192) : xqOf (F := Ideal) X (ix2 p c) = quant (X (ix2 p c)) (scl fun c => X (ix2 p c)) := by
  show Cert.KernelIdeal.Gen.k0_pay8 (F := Ideal) (xRows X (p.val / 32)) (ix2 (⟨p.val % 32, Nat.mod_lt _ (by decide)⟩ : Fin 32) c) = _
  rw [k_quant]
  simp only [xRows_at]

/-- Result 3, the activations' scales. -/
theorem xs_eq : xsOf (F := Ideal) X = Cert.ReferenceIdeal.Gen.k0_pay3 (F := Ideal) X := by
  funext y
  idx_vars y
  rw [show y1 = 0 from Fin.ext (by omega), xs_at, r_scale]

/-- Result 2, the activations' codes. -/
theorem xc_eq : xcOf (F := Ideal) X = Cert.ReferenceIdeal.Gen.k0_pay4 (F := Ideal) X := by
  funext y
  idx_vars y
  rw [xc_at, r_code]

end Cert.Eq
-- ==== Proof.EqTileK.lean ====
/- A tile of the kernel's residual sum, entry by entry: column q of a half tile takes packed column q / 2, the high nibbles' product when q is odd. -/
module

public import proofs.«01_k».proof.Proof.KIVals
public import Idealize.ShloMosaic.Lib.Pointwise

@[expose] public section

set_option maxRecDepth 16384

noncomputable section

namespace Cert.Eq

open Idealize.ShloMosaic

open Cert.KernelIdeal.Gen Cert.KernelIdeal Cert.KernelIdeal.Own

theorem half_lane (q : Fin 128) : (IntOp.addi (IntOp.shrsi ArithUnit.vector (BitVec.ofNat 32 q.val) 1#32) 0#32).toNat % 128 = q.val / 2 := by
  revert q; decide
theorem half_lane64 (q : Fin 128) : (IntOp.addi (IntOp.shrsi ArithUnit.vector (BitVec.ofNat 32 q.val) 1#32) 64#32).toNat % 128 = q.val / 2 + 64 := by
  revert q; decide
theorem odd_lane (q : Fin 128) : IntOp.cmpi .eq (IntOp.andi (BitVec.ofNat 32 q.val) 1#32) 1#32 = BitVec.ofBool (decide (q.val % 2 = 1)) := by
  revert q; decide
theorem select_odd (b : Bool) (x y : EReal) : Scalar.select (BitVec.ofBool b) x y = if b then x else y := by
  cases b <;> rfl

variable (xs : Vec Ideal S256x1 .f32) (xq : Vec Ideal S256x8192 .bf16) (w : Vec Ideal S8192x256 .i8)
variable (ws : Vec Ideal S1x512 .f32) (res : Vec Ideal S256x512 .bf16)

/-- The product a column of a tile takes its sum from. -/
def pick (p : Fin 256) (c : Fin 256) (odd : Prop) [Decidable odd] : EReal :=
  if odd then k0_pay82 (F := Ideal) w xq (ix2 p c) else k0_pay81 (F := Ideal) w xq (ix2 p c)

theorem k_pay84 (p : Fin 256) (q : Fin 128) : k0_pay84 (F := Ideal) w xq (ix2 p q) = k0_pay81 (F := Ideal) w xq (ix2 p ⟨q.val, by omega⟩) := by
  unfold k0_pay84
  pointwise
  try rfl
theorem k_pay85 (p : Fin 256) (q : Fin 128) : k0_pay85 (F := Ideal) w xq (ix2 p q) = k0_pay82 (F := Ideal) w xq (ix2 p ⟨q.val, by omega⟩) := by
  unfold k0_pay85
  pointwise
  try rfl
theorem k_pay93 (x : FVec Ideal S256x256 .f32) (p : Fin 256) (q : Fin 128) : k0_pay93 (F := Ideal) x (ix2 p q) = x (ix2 p ⟨q.val + 128, by omega⟩) := by
  unfold k0_pay93
  pointwise
  simp only [Nat.add_comm]
theorem k_pay94 (x : FVec Ideal S256x256 .f32) (p : Fin 256) (q : Fin 128) : k0_pay94 (F := Ideal) x (ix2 p q) = x (ix2 p ⟨q.val + 128, by omega⟩) := by
  unfold k0_pay94
  pointwise
  simp only [Nat.add_comm]

theorem k_pay88 (p : Fin 256) (q : Fin 128) :
    k0_pay88 (F := Ideal) w xq (ix2 p q) = pick xq w p ⟨q.val / 2, by omega⟩ (q.val % 2 = 1) := by
  unfold k0_pay88 k0_pay87 k0_pay86
  pointwise [k_pay84, k_pay85, half_lane, odd_lane, select_odd]
  unfold pick
  by_cases h : q.val % 2 = 1 <;> simp only [h] <;> rfl

theorem k_pay90 (a : FVec Ideal S256x1 .f32) (b c : FVec Ideal S256x128 .f32) (d : IVec S256x128 1) (e : FVec Ideal S256x128 .f32)
    (f : IVec S256x128 32) (s : Vec Ideal S1x256 .f32) (r : Vec Ideal S256x256 .bf16) (p : Fin 256) (q : Fin 256) :
    k0_pay90 (F := Ideal) a b c d e f s r (ix2 p q) = (if h : q.val < 128 then e (ix2 p ⟨q.val, h⟩)
      else Scalar.select (d (ix2 p ⟨q.val - 128, by omega⟩))
        (c (ix2 p ⟨(f (ix2 p ⟨q.val - 128, by omega⟩)).toNat % 128, Nat.mod_lt _ (by decide)⟩))
        (b (ix2 p ⟨(f (ix2 p ⟨q.val - 128, by omega⟩)).toNat % 128, Nat.mod_lt _ (by decide)⟩))) *
      Ideal.ofBits FTy.f32 0x3D800000#32 * a (ix2 p 0) * s (ix2 0 q) + r (ix2 p q) := by
  unfold k0_pay90
  pointwise
  done

theorem pay86_at (p : Fin 256) (q : Fin 128) : k0_pay86 (ix2 p q) = BitVec.ofBool (decide (q.val % 2 = 1)) := by
  unfold k0_pay86
  pointwise [odd_lane]
  done
theorem pay89_at (p : Fin 256) (q : Fin 128) : (k0_pay89 (ix2 p q)).toNat % 128 = q.val / 2 + 64 := by
  unfold k0_pay89 k0_pay87
  pointwise [half_lane64]
  done

theorem tLo_at (p : Fin 256) (q : Fin 256) : tLo (F := Ideal) xs xq w ws res (ix2 p q) =
    pick xq w p ⟨q.val / 2, by omega⟩ (q.val % 2 = 1) * Ideal.ofBits FTy.f32 0x3D800000#32 * xs (ix2 p 0) * wsCols ws 0 (ix2 0 q)
      + resCols res 0 (ix2 p q) := by
  unfold tLo
  rw [k_pay90, show k0_pay83 (F := Ideal) xs (ix2 p 0) = xs (ix2 p 0) from by unfold k0_pay83; pointwise]
  congr 1
  congr 1
  congr 1
  congr 1
  by_cases h : q.val < 128
  · rw [dif_pos h, k_pay88]
  · rw [dif_neg h, pay86_at, select_odd]
    simp only [k_pay84, k_pay85, pay89_at]
    unfold pick
    have h1 : (q.val - 128) % 2 = q.val % 2 := by omega
    have h2 : (q.val - 128) / 2 + 64 = q.val / 2 := by omega
    simp only [h1, h2, decide_eq_true_eq]

theorem k_pay97 (a : FVec Ideal S256x1 .f32) (b c : FVec Ideal S256x128 .f32) (d e f : IVec S256x128 32)
    (s : Vec Ideal S1x256 .f32) (r : Vec Ideal S256x256 .bf16) (p : Fin 256) (q : Fin 256) :
    k0_pay97 (F := Ideal) a b c d e f s r (ix2 p q) = (if h : q.val < 128 then
        Scalar.select (IntOp.cmpi .eq (e (ix2 p ⟨q.val, h⟩)) (f (ix2 p ⟨q.val, h⟩)))
          (c (ix2 p ⟨(IntOp.addi (IntOp.shrsi ArithUnit.vector (d (ix2 p ⟨q.val, h⟩)) 1#32) 0#32).toNat % 128, Nat.mod_lt _ (by decide)⟩))
          (b (ix2 p ⟨(IntOp.addi (IntOp.shrsi ArithUnit.vector (d (ix2 p ⟨q.val, h⟩)) 1#32) 0#32).toNat % 128, Nat.mod_lt _ (by decide)⟩))
      else
        Scalar.select (IntOp.cmpi .eq (e (ix2 p ⟨q.val - 128, by omega⟩)) (f (ix2 p ⟨q.val - 128, by omega⟩)))
          (c (ix2 p ⟨(IntOp.addi (IntOp.shrsi ArithUnit.vector (d (ix2 p ⟨q.val - 128, by omega⟩)) 1#32) 64#32).toNat % 128, Nat.mod_lt _ (by decide)⟩))
          (b (ix2 p ⟨(IntOp.addi (IntOp.shrsi ArithUnit.vector (d (ix2 p ⟨q.val - 128, by omega⟩)) 1#32) 64#32).toNat % 128, Nat.mod_lt _ (by decide)⟩))) *
      Ideal.ofBits FTy.f32 0x3D800000#32 * a (ix2 p 0) * s (ix2 0 q) + r (ix2 p q) := by
  unfold k0_pay97
  pointwise
  done

theorem lanes_at (p : Fin 256) (q : Fin 128) : lanes (ix2 p q) = BitVec.ofNat 32 q.val := by
  unfold lanes
  pointwise
theorem pay95_at (p : Fin 256) (q : Fin 128) : k0_pay95 (ix2 p q) = IntOp.andi (BitVec.ofNat 32 q.val) 1#32 := by
  unfold k0_pay95
  pointwise
theorem pay96_at (p : Fin 256) (q : Fin 128) : k0_pay96 (ix2 p q) = 1#32 := rfl

theorem tHi_at (p : Fin 256) (q : Fin 256) : tHi (F := Ideal) xs xq w ws res (ix2 p q) =
    pick xq w p ⟨q.val / 2 + 128, by omega⟩ (q.val % 2 = 1) * Ideal.ofBits FTy.f32 0x3D800000#32 * xs (ix2 p 0) * wsCols ws 1 (ix2 0 q)
      + resCols res 1 (ix2 p q) := by
  unfold tHi
  rw [k_pay97, show k0_pay83 (F := Ideal) xs (ix2 p 0) = xs (ix2 p 0) from by unfold k0_pay83; pointwise]
  congr 1
  congr 1
  congr 1
  congr 1
  unfold pick
  by_cases h : q.val < 128
  · rw [dif_pos h]
    have e1 := half_lane ⟨q.val, h⟩
    have e2 := odd_lane ⟨q.val, h⟩
    simp only at e1 e2
    simp only [k_pay93, k_pay94, lanes_at, pay95_at, pay96_at, e1, e2, select_odd, decide_eq_true_eq]
  · have h1 : (q.val - 128) % 2 = q.val % 2 := by omega
    have h2 : (q.val - 128) / 2 + 64 + 128 = q.val / 2 + 128 := by omega
    rw [dif_neg h]
    have e1 := half_lane64 ⟨q.val - 128, by omega⟩
    have e2 := odd_lane ⟨q.val - 128, by omega⟩
    simp only at e1 e2
    simp only [k_pay93, k_pay94, lanes_at, pay95_at, pay96_at, e1, e2, select_odd, decide_eq_true_eq, h1, h2]

end Cert.Eq
-- ==== Proof.EqDot.lean ====
/- The kernel's two products, entry by entry, and the two nibbles of a packed byte. -/
module

public import proofs.«01_k».proof.Proof.KIVals
public import Idealize.ShloMosaic.Lib.BitcastFour
public import Idealize.ShloMosaic.Lib.Pointwise

@[expose] public section

set_option maxRecDepth 16384

noncomputable section

namespace Cert.Eq

open Idealize.ShloMosaic

open Cert.KernelIdeal.Gen Cert.KernelIdeal

/-- A word read back as bytes: bit `q` of byte row `k` is bit `8 (k % 4) + q` of word row `k / 4`. -/
theorem byte_getLsbD (v : S2048x256.Idx → BitVec 32) (k : Fin 8192) (l : Fin 256) (q : ℕ) (hq : q < 8) :
    (bitcast S8192x256 8 v bitcasts_S2048x256_w32_S8192x256_w8 (ix2 k l)).getLsbD q =
      (v (ix2 ⟨k.val / 4, by omega⟩ l)).getLsbD (8 * (k.val % 4) + q) := by
  have hr : S8192x256.row (ix2 k l) = k.val := rfl
  have ep : (S8192x256.row (ix2 k l) * 8 + q) / 32 = k.val / 4 := by rw [hr]; omega
  have eq : (S8192x256.row (ix2 k l) * 8 + q) % 32 = 8 * (k.val % 4) + q := by rw [hr]; omega
  have hb := bitcasts_S2048x256_w32_S8192x256_w8
  have hp : ∀ a : Fin S2048x256.rank, a.val + 2 = S2048x256.rank → k.val / 4 < S2048x256.size a := by
    intro a ha
    match a with
    | ⟨0, _⟩ => show k.val / 4 < 2048; omega
    | ⟨1, _⟩ => exact absurd ha (by show ¬ 1 + 2 = 2; omega)
  rw [bitcast_getLsbD v _ _ q hq (by decide), Shape.Bitcasts.srcIdx_congr hb _ ep _ hp, eq]
  congr 2
  funext c
  match c with
  | ⟨0, _⟩ => exact Fin.ext (hb.srcIdx_row _ _ _ ⟨0, Nat.zero_lt_two⟩ rfl)
  | ⟨1, _⟩ => exact Fin.ext (hb.srcIdx_other _ _ _ ⟨1, Nat.one_lt_two⟩ (by show ¬ 1 + 2 = 2; omega))

theorem word_getLsbD (w : Vec Ideal S8192x256 .i8) (a : Fin 2048) (l : Fin 256) (q : ℕ) (hq : q < 32) (p : Fin 8192) (hp : p.val = 4 * a.val + q / 8) :
    (k0_pay80 (F := Ideal) w (ix2 a l)).getLsbD q = (show BitVec 8 from w (ix2 p l)).getLsbD (q % 8) :=
  bitcast_8_32_getLsbD_ix2 w bitcasts_S8192x256_w8_S2048x256_w32 a l q hq p hp

theorem mask_getLsbD (n : ℕ) (hn : n < 32) : (4042322160#32).getLsbD n = decide (4 ≤ n % 8) := by
  interval_cases n <;> rfl
theorem mask8_getLsbD (n : ℕ) (hn : n < 8) : (0xF0#8).getLsbD n = decide (4 ≤ n) := by
  interval_cases n <;> rfl

/-- The bytes the second product multiplies by: the high nibble left where it is. -/
theorem hi_byte (w : Vec Ideal S8192x256 .i8) (k : Fin 8192) (l : Fin 256) :
    bitcast S8192x256 8 (andi (k0_pay80 (F := Ideal) w) (broadcast S2048x256 4042322160#32))
      bitcasts_S2048x256_w32_S8192x256_w8 (ix2 k l) = (show BitVec 8 from w (ix2 k l)) &&& 0xF0#8 := by
  apply BitVec.eq_of_getLsbD_eq
  intro i hi
  rw [byte_getLsbD _ k l i hi, BitVec.getLsbD_and, mask8_getLsbD i hi]
  show (k0_pay80 (F := Ideal) w (ix2 ⟨k.val / 4, _⟩ l) &&& 4042322160#32).getLsbD _ = _
  rw [BitVec.getLsbD_and, mask_getLsbD _ (by omega), word_getLsbD w _ l _ (by omega) k (by simp only []; omega)]
  have h1 : (8 * (k.val % 4) + i) % 8 = i := by omega
  rw [h1]

/-- The bytes the first product multiplies by: the low nibble moved to the top. -/
theorem lo_byte (w : Vec Ideal S8192x256 .i8) (k : Fin 8192) (l : Fin 256) :
    bitcast S8192x256 8 (andi (shli (k0_pay80 (F := Ideal) w) (broadcast S2048x256 4#32)) (broadcast S2048x256 4042322160#32))
      bitcasts_S2048x256_w32_S8192x256_w8 (ix2 k l) = ((show BitVec 8 from w (ix2 k l)) <<< 4) &&& 0xF0#8 := by
  apply BitVec.eq_of_getLsbD_eq
  intro i hi
  rw [byte_getLsbD _ k l i hi, BitVec.getLsbD_and, mask8_getLsbD i hi]
  show ((k0_pay80 (F := Ideal) w (ix2 ⟨k.val / 4, _⟩ l) <<< 4) &&& 4042322160#32).getLsbD _ = _
  rw [BitVec.getLsbD_and, mask_getLsbD _ (by omega), BitVec.getLsbD_shiftLeft, BitVec.getLsbD_shiftLeft]
  have h1 : (8 * (k.val % 4) + i) % 8 = i := by omega
  rw [h1]
  by_cases h4 : 4 ≤ i
  · rw [word_getLsbD w _ l _ (by omega) k (by simp only []; omega)]
    have h2 : (8 * (k.val % 4) + i - 4) % 8 = i - 4 := by omega
    have h3 : ¬ (8 * (k.val % 4) + i < 4) := by omega
    have h5 : ¬ (i < 4) := by omega
    have h6 : 8 * (k.val % 4) + i < 32 := by omega
    simp [h2, h3, h5, h6, hi, h4]
  · simp [h4]

theorem k_dotLo (w : Vec Ideal S8192x256 .i8) (x : Vec Ideal S256x8192 .bf16) (p : Fin 256) (q : Fin 256) :
    k0_pay81 (F := Ideal) w x (ix2 p q) = ∑ k : Fin 8192, x (ix2 p k) *
      FloatOps.sitofp (F := Ideal) FTy.bf16 (((show BitVec 8 from w (ix2 k q)) <<< 4) &&& 0xF0#8) := by
  simp only [← lo_byte]
  unfold k0_pay81
  pointwise
  done

theorem k_dotHi (w : Vec Ideal S8192x256 .i8) (x : Vec Ideal S256x8192 .bf16) (p : Fin 256) (q : Fin 256) :
    k0_pay82 (F := Ideal) w x (ix2 p q) = ∑ k : Fin 8192, x (ix2 p k) *
      FloatOps.sitofp (F := Ideal) FTy.bf16 ((show BitVec 8 from w (ix2 k q)) &&& 0xF0#8) := by
  simp only [← hi_byte]
  unfold k0_pay82
  pointwise
  done

end Cert.Eq
-- ==== Proof.EqAcc.lean ====
/- A column of the kernel's products, taken at a sixteenth, is the sum of the quantised activations times the signed nibbles. -/
module

public import proofs.«01_k».proof.Proof.EqX
public import proofs.«01_k».proof.Proof.EqTileK
public import proofs.«01_k».proof.Proof.EqDot
public import proofs.«01_k».proof.Proof.EqNib
public import Idealize.ShloMosaic.Lib.Pointwise

@[expose] public section

set_option maxRecDepth 16384

noncomputable section

namespace Cert.Eq

open Idealize.ShloMosaic

open Cert.KernelIdeal Cert.KernelIdeal.Own

/-- The signed nibble of a byte as a number. -/
def nibR (b : BitVec 8) (odd : Bool) : EReal := ((((nib32 b odd).toInt : ℤ) : ℝ) : EReal)

theorem sitofp_lo (b : BitVec 8) : (FloatOps.sitofp (F := Ideal) FTy.bf16 ((b <<< 4) &&& 0xF0#8) : EReal) =
    ((16 * (((nib32 b false).toInt : ℤ) : ℝ) : ℝ) : EReal) := by
  show (((((b <<< 4) &&& 0xF0#8).toInt : ℤ) : ℝ) : EReal) = _
  rw [lo_nib]; push_cast; rfl
theorem sitofp_hi (b : BitVec 8) : (FloatOps.sitofp (F := Ideal) FTy.bf16 (b &&& 0xF0#8) : EReal) =
    ((16 * (((nib32 b true).toInt : ℤ) : ℝ) : ℝ) : EReal) := by
  show ((((b &&& 0xF0#8).toInt : ℤ) : ℝ) : EReal) = _
  rw [hi_nib]; push_cast; rfl

theorem pick_at (X : Vec Ideal S256x8192 .bf16) (w : Vec Ideal S8192x256 .i8) (p : Fin 256) (q : Fin 256) (odd : Prop) [Decidable odd] :
    pick (xqOf (F := Ideal) X) w p q odd * Ideal.ofBits FTy.f32 0x3D800000#32 =
      ∑ k : Fin 8192, xqOf (F := Ideal) X (ix2 p k) * nibR (w (ix2 k q)) (decide odd) := by
  have hq : ∀ k, ∃ z : ℤ, xqOf (F := Ideal) X (ix2 p k) = ((z : ℝ) : EReal) := fun k => by
    obtain ⟨z, _, _, h⟩ := quant_int (X (ix2 p k)) (scl fun c => X (ix2 p c))
    exact ⟨z, (xq_at X p k).trans h⟩
  choose z hz using hq
  rw [lit_16th]
  unfold pick
  by_cases h : odd
  · rw [if_pos h, k_dotHi]
    simp only [h, decide_true]
    refine (congrArg (fun t => t * ((1 / 16 : ℝ) : EReal)) (Finset.sum_congr rfl fun k _ => congrArg _ (sitofp_hi _))).trans ?_
    exact dot16 _ (fun k => (z k : ℝ)) _ hz
  · rw [if_neg h, k_dotLo]
    simp only [h, decide_false]
    refine (congrArg (fun t => t * ((1 / 16 : ℝ) : EReal)) (Finset.sum_congr rfl fun k _ => congrArg _ (sitofp_lo _))).trans ?_
    exact dot16 _ (fun k => (z k : ℝ)) _ hz

end Cert.Eq
-- ==== Proof.EqRoR.lean ====
/- The reference's residual sum, entry by entry. -/
module

public import proofs.«01_k».proof.Proof.Gen.ReferenceIdeal.Skeleton
public import proofs.«01_k».proof.Proof.EqDefs
public import Idealize.ShloMosaic.Lib.Pointwise

@[expose] public section

set_option maxRecDepth 16384

noncomputable section

namespace Cert.Eq

open Idealize.ShloMosaic

open Cert.ReferenceIdeal.Gen Cert.ReferenceIdeal

theorem r_ro (x : Vec Ideal S256x8192 .bf16) (w : Vec Ideal S8192x5120 .bf16) (s : Vec Ideal S1x5120 .f32) (r : Vec Ideal S256x5120 .bf16)
    (p : Fin 256) (c : Fin 5120) : k0_pay5 (F := Ideal) x w s r (ix2 p c) =
      (∑ k : Fin 8192, FloatOps.sitofp (F := Ideal) FTy.bf16 (k0_pay4 (F := Ideal) x (ix2 p k)) * w (ix2 k c))
        * k0_pay3 (F := Ideal) x (ix2 p 0) * s (ix2 0 c) + r (ix2 p c) := by
  unfold k0_pay5
  pointwise
  done

end Cert.Eq
-- ==== Proof.EqRo.lean ====
/- The kernel's residual sum over the whole array is the reference's. -/
module

public import proofs.«01_k».proof.Proof.EqAcc
public import proofs.«01_k».proof.Proof.EqRoR
public import proofs.«01_k».proof.Proof.KIValue
public import Idealize.ShloMosaic.Lib.Pointwise

@[expose] public section

set_option maxRecDepth 16384

noncomputable section

namespace Cert.Eq

open Idealize.ShloMosaic

open Cert.KernelIdeal Cert.KernelIdeal.Own

variable (X : Vec Ideal S256x8192 .bf16) (W : Vec Ideal S8192x2560 .i8) (S : Vec Ideal S1x5120 .f32) (R : Vec Ideal S256x5120 .bf16)

/-- One entry of the residual sum. -/
def roV (p : Fin 256) (j : Fin 5120) : EReal :=
  (∑ k : Fin 8192, xqOf (F := Ideal) X (ix2 p k) * nibR (W (ix2 k ⟨j.val / 2, by omega⟩)) (decide (j.val % 2 = 1)))
    * xsOf (F := Ideal) X (ix2 p 0) * S (ix2 0 j) + R (ix2 p j)

theorem roV_congr (p : Fin 256) (j : Fin 5120) (n q : ℕ) (hn : n < 10) (hq : q < 512) (hj : j.val = 512 * n + q) (c : Fin 256) (odd : Prop) [Decidable odd]
    (hc : c.val = q / 2) (ho : odd ↔ q % 2 = 1) (s : EReal) (hs : s = S (ix2 0 j)) (r : EReal) (hr : r = R (ix2 p j)) :
    pick (xqOf (F := Ideal) X) (colsW W n) p c odd * Ideal.ofBits FTy.f32 0x3D800000#32 * xsOf (F := Ideal) X (ix2 p 0) * s + r = roV X W S R p j := by
  rw [pick_at, hs, hr]
  unfold roV
  have hd : decide odd = decide (j.val % 2 = 1) := by
    apply decide_eq_decide.mpr
    rw [ho]; omega
  rw [hd]
  have hw : ∀ k : Fin 8192, colsW W n (ix2 k c) = W (ix2 k ⟨j.val / 2, by omega⟩) := fun k => by
    unfold colsW
    refine congrArg W (congrArg (fun a => ix2 k a) (Fin.ext ?_))
    show (n * 256 + c.val) % 2560 = j.val / 2
    omega
  simp only [hw]

theorem tile_at (p : Fin 256) (n : ℕ) (hn : n < 10) (q : Fin 512) :
    roT (F := Ideal) X W S R n (ix2 p q) = roV X W S R p ⟨512 * n + q.val, by omega⟩ := by
  unfold roT roOf
  by_cases h : q.val < 256
  · have e : (ix2 p q : S256x512.Idx) 1 = q := rfl
    rw [if_pos (by exact h)]
    show tLo _ _ _ _ _ (ix2 p (⟨q.val % 256, _⟩ : Fin 256)) = _
    rw [tLo_at]
    refine roV_congr X W S R p _ n q.val hn q.isLt rfl _ _ (by show q.val % 256 / 2 = q.val / 2; omega) (by show q.val % 256 % 2 = 1 ↔ _; omega) _ ?_ _ ?_
    · unfold wsCols colsS
      refine congrArg S (congrArg (fun a => ix2 0 a) (Fin.ext ?_))
      show (n * 512 + (256 * 0 + q.val % 256) % 512) % 5120 = 512 * n + q.val
      omega
    · unfold resCols colsR
      refine congrArg R (congrArg (fun a => ix2 p a) (Fin.ext ?_))
      show (n * 512 + (256 * 0 + q.val % 256) % 512) % 5120 = 512 * n + q.val
      omega
  · rw [if_neg (by exact h)]
    show tHi _ _ _ _ _ (ix2 p (⟨q.val % 256, _⟩ : Fin 256)) = _
    rw [tHi_at]
    refine roV_congr X W S R p _ n q.val hn q.isLt rfl _ _ (by show q.val % 256 / 2 + 128 = q.val / 2; omega) (by show q.val % 256 % 2 = 1 ↔ _; omega) _ ?_ _ ?_
    · unfold wsCols colsS
      refine congrArg S (congrArg (fun a => ix2 0 a) (Fin.ext ?_))
      show (n * 512 + (256 * 1 + q.val % 256) % 512) % 5120 = 512 * n + q.val
      omega
    · unfold resCols colsR
      refine congrArg R (congrArg (fun a => ix2 p a) (Fin.ext ?_))
      show (n * 512 + (256 * 1 + q.val % 256) % 512) % 5120 = 512 * n + q.val
      omega

theorem roA_at (p : Fin 256) (j : Fin 5120) : roA (F := Ideal) X W S R (ix2 p j) = roV X W S R p j := by
  show roT (F := Ideal) X W S R (j.val / 512) (ix2 p (⟨j.val % 512, _⟩ : Fin 512)) = _
  rw [tile_at X W S R p _ (by omega)]
  refine congrArg (roV X W S R p) (Fin.ext ?_)
  show 512 * (j.val / 512) + j.val % 512 = j.val
  omega

/-- Result 1, the residual sum: the reference's, for weights that are the signed nibbles. -/
theorem ro_eq (w : Vec Ideal Cert.ReferenceIdeal.S8192x5120 .bf16)
    (hw : ∀ (k : Fin 8192) (j : Fin 5120), w (ix2 k j) = nibR (W (ix2 k ⟨j.val / 2, by omega⟩)) (decide (j.val % 2 = 1))) :
    roA (F := Ideal) X W S R = Cert.ReferenceIdeal.Gen.k0_pay5 (F := Ideal) X w S R := by
  funext y
  idx_vars y
  rw [roA_at, r_ro, r_scale, ← xs_at]
  unfold roV
  simp only [hw, r_code, quant_byte, xq_at]

end Cert.Eq
-- ==== Proof.EqNormK.lean ====
/- The kernel's running sums of squares over 128 lanes, and the normalised rows' tiles, entry by entry. -/
module

public import proofs.«01_k».proof.Proof.EqTileK
public import proofs.«01_k».proof.Proof.EqDefs
public import Idealize.ShloMosaic.Lib.Pointwise

@[expose] public section

set_option maxRecDepth 16384

noncomputable section

namespace Cert.Eq

open Idealize.ShloMosaic

open Cert.KernelIdeal.Gen Cert.KernelIdeal Cert.KernelIdeal.Own

variable (xs : Vec Ideal S256x1 .f32) (xq : Vec Ideal S256x8192 .bf16) (w : Vec Ideal S8192x256 .i8)
variable (ws : Vec Ideal S1x512 .f32) (res : Vec Ideal S256x512 .bf16) (ss : Vec Ideal S256x128 .f32)

theorem ssLo_at (p : Fin 256) (q : Fin 128) : ssLo (F := Ideal) xs xq w ws res ss (ix2 p q) = ss (ix2 p q) +
    (tLo (F := Ideal) xs xq w ws res (ix2 p ⟨q.val, by omega⟩) * tLo (F := Ideal) xs xq w ws res (ix2 p ⟨q.val, by omega⟩)
      + tLo (F := Ideal) xs xq w ws res (ix2 p ⟨128 + q.val, by omega⟩) * tLo (F := Ideal) xs xq w ws res (ix2 p ⟨128 + q.val, by omega⟩)) := by
  unfold ssLo tLo k0_pay92
  pointwise
  done

theorem ssOf_at (p : Fin 256) (q : Fin 128) : ssOf (F := Ideal) xs xq w ws res ss (ix2 p q) = ssLo (F := Ideal) xs xq w ws res ss (ix2 p q) +
    (tHi (F := Ideal) xs xq w ws res (ix2 p ⟨q.val, by omega⟩) * tHi (F := Ideal) xs xq w ws res (ix2 p ⟨q.val, by omega⟩)
      + tHi (F := Ideal) xs xq w ws res (ix2 p ⟨128 + q.val, by omega⟩) * tHi (F := Ideal) xs xq w ws res (ix2 p ⟨128 + q.val, by omega⟩)) := by
  unfold ssOf tHi k0_pay100 k0_pay99 k0_pay1
  pointwise
  done

theorem inv_at (p : Fin 256) : invOf (F := Ideal) ss (ix2 p 0) =
    Ideal.rsqrt (Ideal.div (∑ l, ss (ix2 p l)) (Ideal.ofBits FTy.f32 0x45A00000#32) + Ideal.ofBits FTy.f32 0x358637BD#32) := by
  unfold invOf k0_pay46
  pointwise
  done

theorem yc_at (a b : FVec Ideal S256x1 .f32) (r : Vec Ideal S1x256x512 .bf16) (g : Vec Ideal S1x512 .bf16) (p : Fin 256) (q : Fin 512) :
    k0_pay64 (F := Ideal) a b r g (ix2 p q) = min (Ideal.ofBits FTy.f32 0x43E00000#32) (max (Ideal.ofBits FTy.f32 0xC3E00000#32)
      (r (ix3 0 p q) * a (ix2 p 0) * g (ix2 0 q) * b (ix2 p 0))) := by
  unfold k0_pay64
  pointwise
  done

end Cert.Eq
-- ==== Proof.EqNormR.lean ====
/- The reference's normalised rows, entry by entry. -/
module

public import proofs.«01_k».proof.Proof.Gen.ReferenceIdeal.Skeleton
public import proofs.«01_k».proof.Proof.EqDefs
public import Idealize.ShloMosaic.Lib.Pointwise

@[expose] public section

set_option maxRecDepth 16384

noncomputable section

namespace Cert.Eq

open Idealize.ShloMosaic

open Cert.ReferenceIdeal.Gen Cert.ReferenceIdeal
variable (r : Vec Ideal S256x5120 .bf16) (g : Vec Ideal S1x5120 .bf16)

theorem r_norm (p : Fin 256) (c : Fin 5120) : k0_pay6 (F := Ideal) r g (ix2 p c) = r (ix2 p c) *
    Ideal.rsqrt (Ideal.div (∑ x, r (ix2 p x) * r (ix2 p x)) (Ideal.ofBits FTy.f32 0x45A00000#32) + Ideal.ofBits FTy.f32 0x358637BD#32) * g (ix2 0 c) := by
  unfold k0_pay6
  pointwise
  done

end Cert.Eq
-- ==== Proof.EqSS.lean ====
/- Sums over 5120 columns split into ten tiles, and the kernel's sums of squares. -/
module

public import proofs.«01_k».proof.Proof.EqRo
public import proofs.«01_k».proof.Proof.EqNormK
public import proofs.«01_k».proof.Proof.EqNormR
public import Idealize.ShloMosaic.Lib.Pointwise

@[expose] public section

set_option maxRecDepth 16384

noncomputable section

namespace Cert.Eq

open Idealize.ShloMosaic

open Cert.KernelIdeal Cert.KernelIdeal.Own

/-- Four lanes' worth of columns: a sum over 512 columns, taken 128 lanes at a time. -/
theorem sum_lanes (f : ℕ → EReal) : (∑ q ∈ Finset.range 512, f q) =
    ∑ l : Fin 128, ((f l.val + f (128 + l.val)) + (f (256 + l.val) + f (256 + (128 + l.val)))) := by
  rw [show 512 = 256 + 256 from rfl, Finset.sum_range_add, show 256 = 128 + 128 from rfl, Finset.sum_range_add, Finset.sum_range_add,
    Finset.sum_add_distrib, Finset.sum_add_distrib, Finset.sum_add_distrib]
  simp only [Finset.sum_range]

variable (X : Vec Ideal S256x8192 .bf16) (W : Vec Ideal S8192x2560 .i8) (S : Vec Ideal S1x5120 .f32) (R : Vec Ideal S256x5120 .bf16)

/-- The square of column `j` of a row, columns counted from any start. -/
def sqN (p : Fin 256) (j : ℕ) : EReal := roV X W S R p ⟨j % 5120, Nat.mod_lt _ (by decide)⟩ * roV X W S R p ⟨j % 5120, Nat.mod_lt _ (by decide)⟩

theorem lo_at (p : Fin 256) (n : ℕ) (hn : n < 10) (q : Fin 256) (j : ℕ) (hj : j = 512 * n + q.val) :
    tLo (F := Ideal) (xsOf X) (xqOf X) (colsW W n) (colsS S n) (colsR R n) (ix2 p q) = roV X W S R p ⟨j % 5120, Nat.mod_lt _ (by decide)⟩ := by
  have h := tile_at X W S R p n hn ⟨q.val, by omega⟩
  have e : roT (F := Ideal) X W S R n (ix2 p ⟨q.val, by omega⟩) = tLo (F := Ideal) (xsOf X) (xqOf X) (colsW W n) (colsS S n) (colsR R n) (ix2 p q) := by
    unfold roT roOf
    rw [if_pos (by exact q.isLt)]
    exact congrArg (fun a => tLo (F := Ideal) (xsOf X) (xqOf X) (colsW W n) (colsS S n) (colsR R n) (ix2 p a)) (Fin.ext (Nat.mod_eq_of_lt q.isLt))
  rw [← e, h]
  refine congrArg (roV X W S R p) (Fin.ext ?_)
  show 512 * n + q.val = j % 5120
  omega

theorem hi_at (p : Fin 256) (n : ℕ) (hn : n < 10) (q : Fin 256) (j : ℕ) (hj : j = 512 * n + (256 + q.val)) :
    tHi (F := Ideal) (xsOf X) (xqOf X) (colsW W n) (colsS S n) (colsR R n) (ix2 p q) = roV X W S R p ⟨j % 5120, Nat.mod_lt _ (by decide)⟩ := by
  have h := tile_at X W S R p n hn ⟨256 + q.val, by omega⟩
  have e : roT (F := Ideal) X W S R n (ix2 p ⟨256 + q.val, by omega⟩) = tHi (F := Ideal) (xsOf X) (xqOf X) (colsW W n) (colsS S n) (colsR R n) (ix2 p q) := by
    unfold roT roOf
    rw [if_neg (by exact (show ¬ 256 + q.val < 256 by omega))]
    exact congrArg (fun a => tHi (F := Ideal) (xsOf X) (xqOf X) (colsW W n) (colsS S n) (colsR R n) (ix2 p a))
      (Fin.ext (show (256 + q.val) % 256 = q.val by omega))
  rw [← e, h]
  refine congrArg (roV X W S R p) (Fin.ext ?_)
  show 512 * n + (256 + q.val) = j % 5120
  omega

theorem ss_step (p : Fin 256) (n : ℕ) (hn : n < 10) (ss : Vec Ideal S256x128 .f32) :
    (∑ l : Fin 128, ssOf (F := Ideal) (xsOf X) (xqOf X) (colsW W n) (colsS S n) (colsR R n) ss (ix2 p l)) =
      (∑ l : Fin 128, ss (ix2 p l)) + ∑ q ∈ Finset.range 512, sqN X W S R p (512 * n + q) := by
  rw [sum_lanes fun q => sqN X W S R p (512 * n + q), ← Finset.sum_add_distrib]
  refine Finset.sum_congr rfl fun l _ => ?_
  rw [ssOf_at, ssLo_at, lo_at X W S R p n hn _ (512 * n + l.val) rfl, lo_at X W S R p n hn _ (512 * n + (128 + l.val)) rfl,
    hi_at X W S R p n hn _ (512 * n + (256 + l.val)) rfl, hi_at X W S R p n hn _ (512 * n + (256 + (128 + l.val))) rfl, add_assoc]
  rfl

theorem ss_sum (p : Fin 256) (n : ℕ) (hn : n < 10) :
    (∑ l : Fin 128, ssT (F := Ideal) X W S R n (ix2 p l)) = ∑ j ∈ Finset.range (512 * (n + 1)), sqN X W S R p j := by
  induction n with
  | zero =>
    show (∑ l : Fin 128, ssOf (F := Ideal) _ _ _ _ _ _ (ix2 p l)) = _
    rw [ss_step X W S R p 0 (by omega)]
    have h0 : ∀ l : Fin 128, (Cert.KernelIdeal.Gen.k0_pay3 (F := Ideal) : Vec Ideal S256x128 .f32) (ix2 p l) = 0 := fun l => by
      unfold Cert.KernelIdeal.Gen.k0_pay3
      pointwise
    simp only [h0, Finset.sum_const_zero, zero_add, Nat.mul_zero]
  | succ n ih =>
    show (∑ l : Fin 128, ssOf (F := Ideal) _ _ _ _ _ _ (ix2 p l)) = _
    rw [ss_step X W S R p (n + 1) hn, ih (by omega), show 512 * (n + 1 + 1) = 512 * (n + 1) + 512 from rfl, Finset.sum_range_add]

/-- The sum of a row's squares, as the reference takes it. -/
theorem ss_all (p : Fin 256) : (∑ l : Fin 128, ssT (F := Ideal) X W S R 9 (ix2 p l)) =
    ∑ j : Fin 5120, roV X W S R p j * roV X W S R p j := by
  rw [ss_sum X W S R p 9 (by decide), show 512 * (9 + 1) = 5120 from rfl, Finset.sum_range]
  refine Finset.sum_congr rfl fun j _ => ?_
  unfold sqN
  have e : (⟨j.val % 5120, Nat.mod_lt _ (by decide)⟩ : Fin 5120) = j := Fin.ext (Nat.mod_eq_of_lt j.isLt)
  rw [e]

/-- The reciprocal root of a row's mean square. -/
def invV (p : Fin 256) : EReal :=
  Ideal.rsqrt (Ideal.div (∑ j : Fin 5120, roV X W S R p j * roV X W S R p j) (Ideal.ofBits FTy.f32 0x45A00000#32) + Ideal.ofBits FTy.f32 0x358637BD#32)

theorem invOf_at (p : Fin 256) : invOf (F := Ideal) (ssT X W S R 9) (ix2 p 0) = invV X W S R p := by
  rw [inv_at, ss_all]; rfl

end Cert.Eq
-- ==== Proof.EqBound.lean ====
/- A row divided by the root of its mean square is at most 72 in size, so the row's largest value is bounded by 72 times the largest weight of the norm. -/
module

public import proofs.«01_k».proof.Proof.EqLit
public import proofs.«01_k».proof.Proof.EqDefs
public import Idealize.ShloMosaic.Lib.Pointwise

@[expose] public section

set_option maxRecDepth 16384

noncomputable section

namespace Cert.Eq

open Idealize.ShloMosaic

theorem absf_eq (x : EReal) : (FloatOps.absf (F := Ideal) (φ := .f32) x : EReal) = max x (-x) := rfl

theorem absf_nonneg (x : EReal) : 0 ≤ (FloatOps.absf (F := Ideal) (φ := .f32) x : EReal) := by
  rw [absf_eq]
  rcases le_total 0 x with h | h
  · exact le_max_of_le_left h
  · exact le_max_of_le_right (EReal.neg_nonneg.mpr h)

theorem absf_coe (x : ℝ) : (FloatOps.absf (F := Ideal) (φ := .f32) (x : EReal) : EReal) = ((|x| : ℝ) : EReal) := by
  rw [absf_eq, ← EReal.coe_neg]
  exact (EReal.coe_strictMono.monotone.map_max).symm

theorem absf_bot_le (M : ℝ) : ¬ (FloatOps.absf (F := Ideal) (φ := .f32) (⊥ : EReal) : EReal) ≤ (M : EReal) := by
  rw [absf_eq]; simp
theorem absf_top_le (M : ℝ) : ¬ (FloatOps.absf (F := Ideal) (φ := .f32) (⊤ : EReal) : EReal) ≤ (M : EReal) := by
  rw [absf_eq]; simp

theorem rowMax_le_iff {n : ℕ} (f : Fin n → EReal) (a : EReal) :
    rowMax f ≤ a ↔ ∀ c, (FloatOps.absf (F := Ideal) (φ := .f32) (f c) : EReal) ≤ a := by
  unfold rowMax
  rw [lit_neg_inf, Finset.fold_max_le]
  simp

theorem sq_nonneg' (x : EReal) : 0 ≤ x * x := by
  induction x with
  | bot => simp
  | top => simp
  | coe r => rw [← EReal.coe_mul]; exact_mod_cast mul_self_nonneg r

/-- The reciprocal root of the mean square of a row. -/
def invOfRow (f : Fin 5120 → EReal) : EReal :=
  Ideal.rsqrt (Ideal.div (∑ j, f j * f j) (Ideal.ofBits FTy.f32 0x45A00000#32) + Ideal.ofBits FTy.f32 0x358637BD#32)

theorem inv_of_infinite (f : Fin 5120 → EReal) (j : Fin 5120) (h : f j * f j = ⊤) : invOfRow f = 0 := by
  have hs : (∑ j, f j * f j) = ⊤ :=
    top_le_iff.mp (h ▸ Finset.single_le_sum (f := fun j => f j * f j) (fun i _ => sq_nonneg' (f i)) (Finset.mem_univ j))
  unfold invOfRow
  rw [hs, lit_5120, lit_eps, Ideal.div_coe (by norm_num), EReal.top_mul_coe_of_pos (by norm_num), EReal.top_add_coe]
  rfl

theorem coe_sum {n : ℕ} (a : Fin n → ℝ) (s : Finset (Fin n)) : (∑ k ∈ s, ((a k : ℝ) : EReal)) = ((∑ k ∈ s, a k : ℝ) : EReal) := by
  induction s using Finset.induction_on with
  | empty => simp
  | insert i s h ih => rw [Finset.sum_insert h, Finset.sum_insert h, ih, EReal.coe_add]

theorem real_row_bound (a : Fin 5120 → ℝ) (p : Fin 5120) : ∃ x : ℝ, (a p : EReal) * invOfRow (fun j => (a j : EReal)) = (x : EReal) ∧ |x| ≤ 72 := by
  have hs : ∀ j, a j * a j ≤ ∑ j, a j * a j := fun j =>
    Finset.single_le_sum (f := fun j => a j * a j) (fun i _ => mul_self_nonneg (a i)) (Finset.mem_univ j)
  have h0 : 0 ≤ ∑ j, a j * a j := Finset.sum_nonneg fun i _ => mul_self_nonneg (a i)
  have hp := hs p
  unfold invOfRow
  simp only [← EReal.coe_mul]
  rw [coe_sum, lit_5120, lit_eps, Ideal.div_coe (by norm_num), ← EReal.coe_mul, ← EReal.coe_add]
  generalize (∑ j, a j * a j) = s at h0 hp
  have hv : 0 < s * (1 / 5120) + 8796093 * 2 ^ (-43 : ℤ) := by positivity
  have hle : s ≤ 5120 * (s * (1 / 5120) + 8796093 * 2 ^ (-43 : ℤ)) := by
    have : (0 : ℝ) < 8796093 * 2 ^ (-43 : ℤ) := by positivity
    linarith
  generalize s * (1 / 5120) + 8796093 * 2 ^ (-43 : ℤ) = v at hv hle
  rw [Ideal.rsqrt_coe, if_neg (by linarith), if_neg hv.ne', ← EReal.coe_mul]
  refine ⟨_, rfl, ?_⟩
  have hq := Real.sqrt_pos.mpr hv
  rw [abs_mul, abs_of_pos (inv_pos.mpr hq), ← div_eq_mul_inv, div_le_iff₀ hq]
  apply abs_le_of_sq_le_sq _ (by positivity)
  rw [mul_pow, Real.sq_sqrt hv.le]
  nlinarith

/-- A normalised entry is at most 72 times its weight in size. -/
theorem norm_bound (f : Fin 5120 → EReal) (p : Fin 5120) : ∃ x : ℝ, f p * invOfRow f = (x : EReal) ∧ |x| ≤ 72 := by
  by_cases h : ∃ j, f j * f j = ⊤
  · obtain ⟨j, hj⟩ := h
    exact ⟨0, by rw [inv_of_infinite f j hj, mul_zero]; rfl, by norm_num⟩
  · have hr : ∀ j, ∃ a : ℝ, f j = (a : EReal) := fun j => by
      have hj : ¬ f j * f j = ⊤ := fun e => h ⟨j, e⟩
      generalize f j = x at hj
      induction x with
      | bot => exact absurd (by simp) hj
      | top => exact absurd (by simp) hj
      | coe r => exact ⟨r, rfl⟩
    choose a ha using hr
    have e : f = fun j => (a j : EReal) := funext ha
    rw [e]
    exact real_row_bound a p

/-- The bound on a row's largest value, for weights within the finite numbers of the weights' format. -/
theorem rowMax_bound (f g : Fin 5120 → EReal)
    (hg : ∀ j, (FloatOps.absf (F := Ideal) (φ := .f32) (g j) : EReal) ≤ Ideal.ofBits FTy.f32 0x7F7F0000#32) :
    rowMax (fun j => f j * invOfRow f * g j) ≤ ((3 * 2 ^ (133 : ℤ) : ℝ) : EReal) := by
  rw [rowMax_le_iff]
  intro j
  obtain ⟨x, hx, hx2⟩ := norm_bound f j
  have hM : Ideal.ofBits FTy.f32 0x7F7F0000#32 = ((255 * 2 ^ (120 : ℤ) : ℝ) : EReal) := by
    simp [Ideal.ofBits, Ideal.ieee]; norm_cast
  have hj := hg j
  rw [hM] at hj
  rw [hx]
  generalize g j = y at hj
  induction y with
  | bot => exact absurd hj (absf_bot_le _)
  | top => exact absurd hj (absf_top_le _)
  | coe r =>
    rw [absf_coe, EReal.coe_le_coe_iff] at hj
    rw [← EReal.coe_mul, absf_coe, EReal.coe_le_coe_iff, abs_mul]
    calc |x| * |r| ≤ 72 * (255 * 2 ^ (120 : ℤ)) := by gcongr
      _ ≤ 3 * 2 ^ (133 : ℤ) := by norm_num

end Cert.Eq
-- ==== Proof.EqAmA.lean ====
/- The kernel's largest absolute value of a normalised row, tile after tile. -/
module

public import proofs.«01_k».proof.Proof.KIVals
public import proofs.«01_k».proof.Proof.EqDefs
public import Idealize.ShloMosaic.Lib.Pointwise

@[expose] public section

set_option maxRecDepth 16384

noncomputable section

namespace Cert.Eq

open Idealize.ShloMosaic

open Cert.KernelIdeal.Gen Cert.KernelIdeal Cert.KernelIdeal.Own

/-- The largest absolute value of a row of one tile. -/
def tileMax (a : EReal) (r : Vec Ideal S1x256x512 .bf16) (g : Vec Ideal S1x512 .bf16) (p : Fin 256) : EReal :=
  rowMax fun q : Fin 512 => r (ix3 0 p q) * a * g (ix2 0 q)

theorem pay47_at (ss : Vec Ideal S256x128 .f32) (r0 r1 : Vec Ideal S1x256x512 .bf16) (g0 g1 : Vec Ideal S1x512 .bf16) (p : Fin 256) :
    k0_pay47 (F := Ideal) ss r0 g0 r1 g1 (ix2 p 0) = max (max 0 (tileMax (invOf ss (ix2 p 0)) r0 g0 p)) (tileMax (invOf ss (ix2 p 0)) r1 g1 p) := by
  unfold k0_pay47 tileMax rowMax invOf
  pointwise
  done

theorem pay48_at (r : Vec Ideal S1x256x512 .bf16) (p : Fin 256) (q : Fin 512) : k0_pay48 (F := Ideal) r (ix2 p q) = r (ix3 0 p q) := by
  unfold k0_pay48
  pointwise
  done
theorem pay50_at (r : Vec Ideal S1x256x512 .bf16) (p : Fin 256) (q : Fin 512) : k0_pay50 (F := Ideal) r (ix2 p q) = r (ix3 0 p q) := by
  unfold k0_pay50
  pointwise
  done
theorem pay52_at (r : Vec Ideal S1x256x512 .bf16) (p : Fin 256) (q : Fin 512) : k0_pay52 (F := Ideal) r (ix2 p q) = r (ix3 0 p q) := by
  unfold k0_pay52
  pointwise
  done

end Cert.Eq
-- ==== Proof.EqAmB.lean ====
/- The kernel's largest absolute value of a normalised row, three more tiles. -/
module

public import proofs.«01_k».proof.Proof.EqAmA
public import Idealize.ShloMosaic.Lib.Pointwise

@[expose] public section

set_option maxRecDepth 16384

noncomputable section

namespace Cert.Eq

open Idealize.ShloMosaic

open Cert.KernelIdeal.Gen Cert.KernelIdeal Cert.KernelIdeal.Own

theorem pay49_at (a m : FVec Ideal S256x1 .f32) (r0 r1 r2 : Vec Ideal S1x256x512 .bf16) (g0 g1 g2 : Vec Ideal S1x512 .bf16) (p : Fin 256) :
    k0_pay49 (F := Ideal) a m (k0_pay48 (F := Ideal) r0) g0 r1 g1 r2 g2 (ix2 p 0) = max (max (max (m (ix2 p 0)) (tileMax (a (ix2 p 0)) r0 g0 p))
      (tileMax (a (ix2 p 0)) r1 g1 p)) (tileMax (a (ix2 p 0)) r2 g2 p) := by
  unfold k0_pay49 tileMax rowMax
  pointwise [pay48_at]
  done

end Cert.Eq
-- ==== Proof.EqAmC.lean ====
/- The kernel's largest absolute value of a normalised row, three more tiles. -/
module

public import proofs.«01_k».proof.Proof.EqAmA
public import Idealize.ShloMosaic.Lib.Pointwise

@[expose] public section

set_option maxRecDepth 16384

noncomputable section

namespace Cert.Eq

open Idealize.ShloMosaic

open Cert.KernelIdeal.Gen Cert.KernelIdeal Cert.KernelIdeal.Own

theorem pay51_at (a m : FVec Ideal S256x1 .f32) (r0 r1 r2 : Vec Ideal S1x256x512 .bf16) (g0 g1 g2 : Vec Ideal S1x512 .bf16) (p : Fin 256) :
    k0_pay51 (F := Ideal) a m (k0_pay50 (F := Ideal) r0) g0 r1 g1 r2 g2 (ix2 p 0) = max (max (max (m (ix2 p 0)) (tileMax (a (ix2 p 0)) r0 g0 p))
      (tileMax (a (ix2 p 0)) r1 g1 p)) (tileMax (a (ix2 p 0)) r2 g2 p) := by
  unfold k0_pay51 tileMax rowMax
  pointwise [pay50_at]
  done

end Cert.Eq
-- ==== Proof.EqAmD.lean ====
/- The kernel's largest absolute value of a normalised row, the last two tiles, and the zero test and the exponent on it. -/
module

public import proofs.«01_k».proof.Proof.EqAmA
public import Idealize.ShloMosaic.Lib.Pointwise

@[expose] public section

set_option maxRecDepth 16384

noncomputable section

namespace Cert.Eq

open Idealize.ShloMosaic

open Cert.KernelIdeal.Gen Cert.KernelIdeal Cert.KernelIdeal.Own

/-- The exponent the kernel gives a positive value: the number of floats of zero fraction it reaches, shifted. -/
def countExp (t : EReal) : BitVec 32 :=
  IntOp.subi (IntOp.subi (Finset.fold IntOp.addi (0#32)
    (fun x : Fin 256 => BitVec.setWidth 32 (BitVec.ofBool (decide (Ideal.ofBits FTy.f32 (IntOp.shli ArithUnit.vector (BitVec.ofNat 32 x.val) 23#32) ≤ t))))
    Finset.univ) 1#32) 126#32

theorem pay53_at (a m : FVec Ideal S256x1 .f32) (r0 r1 : Vec Ideal S1x256x512 .bf16) (g0 g1 : Vec Ideal S1x512 .bf16) (p : Fin 256) :
    k0_pay53 (F := Ideal) a m (k0_pay52 (F := Ideal) r0) g0 r1 g1 (ix2 p 0) = max (max (m (ix2 p 0)) (tileMax (a (ix2 p 0)) r0 g0 p))
      (tileMax (a (ix2 p 0)) r1 g1 p) := by
  unfold k0_pay53 tileMax rowMax
  pointwise [pay52_at]
  done

theorem pay54_at (a m : FVec Ideal S256x1 .f32) (r0 : FVec Ideal S256x512 .bf16) (r1 : Vec Ideal S1x256x512 .bf16) (g0 g1 : Vec Ideal S1x512 .bf16) (p : Fin 256) :
    k0_pay54 (F := Ideal) a m r0 g0 r1 g1 (ix2 p 0) = BitVec.ofBool (decide (k0_pay53 (F := Ideal) a m r0 g0 r1 g1 (ix2 p 0) = 0)) := by
  unfold k0_pay54
  pointwise

theorem pay55_at (a m : FVec Ideal S256x1 .f32) (r0 : FVec Ideal S256x512 .bf16) (r1 : Vec Ideal S1x256x512 .bf16) (g0 g1 : Vec Ideal S1x512 .bf16) (p : Fin 256) :
    k0_pay55 (F := Ideal) a m r0 g0 r1 g1 (ix2 p 0) = countExp (k0_pay53 (F := Ideal) a m r0 g0 r1 g1 (ix2 p 0) * Ideal.ofBits FTy.f32 0x3B124925#32) := by
  unfold k0_pay55
  pointwise
  rfl

theorem pay58_at (z : IVec S256x1 1) (e f : IVec S256x1 32) (p : Fin 256) :
    k0_pay58 (F := Ideal) z e f (ix2 p 0) = Ideal.ofBits .f32 ((Scalar.select (z (ix2 p 0)) (f (ix2 p 0)) (e (ix2 p 0)) + 127#32) <<< 23) := rfl

theorem pay59_at (z : IVec S256x1 1) (e f : IVec S256x1 32) (p : Fin 256) :
    k0_pay59 (F := Ideal) z e f (ix2 p 0) = Ideal.ofBits .f32 ((127#32 - Scalar.select (z (ix2 p 0)) (f (ix2 p 0)) (e (ix2 p 0))) <<< 23) := rfl

end Cert.Eq
-- ==== Proof.EqMax.lean ====
/- The largest value of a normalised row: the kernel's, over ten tiles, is the maximum over the row. -/
module

public import proofs.«01_k».proof.Proof.EqSS
public import proofs.«01_k».proof.Proof.EqBound
public import proofs.«01_k».proof.Proof.EqAmB
public import proofs.«01_k».proof.Proof.EqAmC
public import proofs.«01_k».proof.Proof.EqAmD
public import Idealize.ShloMosaic.Lib.Pointwise

@[expose] public section

set_option maxRecDepth 16384

noncomputable section

namespace Cert.Eq

open Idealize.ShloMosaic

open Cert.KernelIdeal Cert.KernelIdeal.Own

variable (X : Vec Ideal S256x8192 .bf16) (W : Vec Ideal S8192x2560 .i8) (S : Vec Ideal S1x5120 .f32) (R : Vec Ideal S256x5120 .bf16)
variable (G : Vec Ideal S1x5120 .bf16)

/-- One entry of the normalised rows. -/
def yV (p : Fin 256) (j : Fin 5120) : EReal := roV X W S R p j * invV X W S R p * G (ix2 0 j)

theorem rTile_at (p : Fin 256) (n : ℕ) (hn : n < 10) (q : Fin 512) :
    rTile (rallT (F := Ideal) X W S R) n (ix3 0 p q) = roV X W S R p ⟨512 * n + q.val, by omega⟩ := by
  rw [← tile_at X W S R p n hn q]
  show roT (F := Ideal) X W S R (n % 10) (ix2 p q) = _
  rw [Nat.mod_eq_of_lt hn]

theorem gTile_at (n : ℕ) (hn : n < 10) (q : Fin 512) : gTile (F := Ideal) G n (ix2 0 q) = G (ix2 0 ⟨512 * n + q.val, by omega⟩) := by
  unfold gTile
  refine congrArg G (congrArg (fun a => ix2 0 a) (Fin.ext ?_))
  show (512 * n + q.val) % 5120 = 512 * n + q.val
  omega

theorem tileMax_at (p : Fin 256) (n : ℕ) (hn : n < 10) :
    tileMax (invV X W S R p) (rTile (rallT (F := Ideal) X W S R) n) (gTile (F := Ideal) G n) p =
      rowMax fun q : Fin 512 => yV X W S R G p ⟨512 * n + q.val, by omega⟩ := by
  unfold tileMax yV
  refine congrArg rowMax (funext fun q => ?_)
  rw [rTile_at X W S R p n hn q, gTile_at G n hn q]

/-- The kernel's largest value of a row. -/
def amax (ss : Vec Ideal S256x128 .f32) (r : Vec Ideal S10x256x512 .bf16) (g : Vec Ideal S1x5120 .bf16) : FVec Ideal S256x1 .f32 :=
  Cert.KernelIdeal.Gen.k0_pay53 (F := Ideal) (invOf ss) (am7 ss r g) (Cert.KernelIdeal.Gen.k0_pay52 (rTile r 8)) (gTile g 8) (rTile r 9) (gTile g 9)

/-- The maximum over ten tiles is the maximum over the row. -/
theorem max_tiles (f : Fin 5120 → EReal) (t : ℕ → EReal) (ht : ∀ n (hn : n < 10), t n = rowMax fun q : Fin 512 => f ⟨512 * n + q.val, by omega⟩) :
    max (max (max (max (max (max (max (max (max (max 0 (t 0)) (t 1)) (t 2)) (t 3)) (t 4)) (t 5)) (t 6)) (t 7)) (t 8)) (t 9) = rowMax f := by
  apply eq_of_forall_ge_iff
  intro a
  simp only [max_le_iff]
  constructor
  · rintro ⟨⟨⟨⟨⟨⟨⟨⟨⟨⟨_, h0⟩, h1⟩, h2⟩, h3⟩, h4⟩, h5⟩, h6⟩, h7⟩, h8⟩, h9⟩
    have hall : ∀ n, n < 10 → t n ≤ a := by
      intro n hn
      interval_cases n <;> assumption
    rw [rowMax_le_iff]
    intro c
    have h := hall (c.val / 512) (by omega)
    rw [ht _ (by omega), rowMax_le_iff] at h
    have hc := h ⟨c.val % 512, Nat.mod_lt _ (by decide)⟩
    have e : (⟨512 * (c.val / 512) + c.val % 512, by omega⟩ : Fin 5120) = c := Fin.ext (by show 512 * (c.val / 512) + c.val % 512 = c.val; omega)
    simp only [e] at hc
    exact hc
  · intro h
    rw [rowMax_le_iff] at h
    have hall : ∀ n, n < 10 → t n ≤ a := by
      intro n hn
      rw [ht n hn, rowMax_le_iff]
      exact fun q => h _
    exact ⟨⟨⟨⟨⟨⟨⟨⟨⟨⟨(absf_nonneg _).trans (h 0), hall 0 (by omega)⟩, hall 1 (by omega)⟩, hall 2 (by omega)⟩, hall 3 (by omega)⟩, hall 4 (by omega)⟩,
      hall 5 (by omega)⟩, hall 6 (by omega)⟩, hall 7 (by omega)⟩, hall 8 (by omega)⟩, hall 9 (by omega)⟩

theorem amax_at (p : Fin 256) : amax (ssT (F := Ideal) X W S R 9) (rallT (F := Ideal) X W S R) G (ix2 p 0) = rowMax (yV X W S R G p) := by
  rw [← max_tiles (yV X W S R G p) (fun n => tileMax (invV X W S R p) (rTile (rallT (F := Ideal) X W S R) n) (gTile (F := Ideal) G n) p)
    (fun n hn => tileMax_at X W S R G p n hn)]
  unfold amax am7
  rw [pay53_at, pay51_at, pay49_at, pay47_at, invOf_at]

end Cert.Eq
-- ==== Proof.EqExpR.lean ====
/- The reference's exponents, row by row. -/
module

public import proofs.«01_k».proof.Proof.Gen.ReferenceIdeal.Skeleton
public import proofs.«01_k».proof.Proof.EqDefs
public import Idealize.ShloMosaic.Lib.Pointwise

@[expose] public section

set_option maxRecDepth 16384

noncomputable section

namespace Cert.Eq

open Idealize.ShloMosaic

open Cert.ReferenceIdeal.Gen Cert.ReferenceIdeal
variable (r : Vec Ideal S256x5120 .bf16) (g : Vec Ideal S1x5120 .bf16)

/-- The exponent of a row whose largest absolute value is `b`. -/
def expR (b : EReal) : EReal := if b = 0 then 0 else
  max (Ideal.liftRound Int.floor (Ideal.div (Ideal.log (b * Ideal.ofBits FTy.f32 0x3B124925#32)) (Ideal.log (Ideal.ofBits FTy.f32 0x40000000#32))) + 1)
    (Ideal.ofBits FTy.f32 0xC2FC0000#32)

theorem r_exp (p : Fin 256) : k0_pay7 (F := Ideal) r g (ix2 p 0) = expR (rowMax fun c => k0_pay6 (F := Ideal) r g (ix2 p c)) := by
  unfold k0_pay7
  pointwise
  rfl

end Cert.Eq
-- ==== Proof.EqExp.lean ====
/- The exponent of a row's scale: counting the powers of two a positive number reaches gives the floor of its logarithm, and the scale's bits are that power of two. -/
module

public import proofs.«01_k».proof.Proof.EqLit
public import proofs.«01_k».proof.Proof.EqExpR
public import proofs.«01_k».proof.Proof.EqAmD
public import Idealize.ShloMosaic.Lib.IndicatorCount
public import Idealize.ShloMosaic.Lib.Pointwise

@[expose] public section

set_option maxRecDepth 16384

noncomputable section

namespace Cert.Eq

open Idealize.ShloMosaic

/-- A power of two is at most `t` when its exponent is at most the floor of `t`'s logarithm. -/
theorem zpow_le_iff (t : ℝ) (ht : 0 < t) (z : ℤ) : (2 : ℝ) ^ z ≤ t ↔ z ≤ ⌊Real.log t * (1 / Real.log 2)⌋ := by
  have h2 : 0 < Real.log 2 := Real.log_pos (by norm_num)
  rw [Int.le_floor, mul_one_div, le_div_iff₀ h2, ← Real.log_zpow, Real.log_le_log_iff (by positivity) ht]

theorem shli_23 (k : ℕ) : IntOp.shli ArithUnit.vector (BitVec.ofNat 32 k) 23#32 = BitVec.ofNat 32 k <<< 23 := rfl

/-- A float of zero fraction is at most `t` when its exponent field is small enough. -/
theorem reach_iff (t : ℝ) (ht : 0 < t) (L : ℤ) (hL : L = ⌊Real.log t * (1 / Real.log 2)⌋) (hU : L ≤ 125) (k : Fin 256) :
    Ideal.ofBits FTy.f32 (IntOp.shli ArithUnit.vector (BitVec.ofNat 32 k.val) 23#32) ≤ (t : EReal) ↔ k.val ≤ (max 0 (L + 127)).toNat := by
  rw [shli_23]
  by_cases h0 : k.val = 0
  · rw [h0, lit_pow_0]
    exact ⟨fun _ => Nat.zero_le _, fun _ => by exact_mod_cast ht.le⟩
  by_cases h1 : k.val = 255
  · rw [h1, lit_pow_255]
    constructor
    · intro h; exact absurd (top_le_iff.mp h) (EReal.coe_ne_top t)
    · intro h; omega
  rw [lit_pow k.val (by omega) (by omega), EReal.coe_le_coe_iff, zpow_le_iff t ht, ← hL]
  omega

/-- The kernel's count is the floor of the logarithm plus one, at least -126. -/
theorem countExp_coe (t : ℝ) (ht : 0 < t) (L : ℤ) (hL : L = ⌊Real.log t * (1 / Real.log 2)⌋) (hU : L ≤ 125) :
    countExp (t : EReal) = BitVec.ofInt 32 (max (L + 1) (-126)) := by
  unfold countExp
  rw [IndicatorCount.fold_addi_setWidth_eq_card]
  have hc : (Finset.univ.filter fun k : Fin 256 => BitVec.ofBool (decide (Ideal.ofBits FTy.f32
      (IntOp.shli ArithUnit.vector (BitVec.ofNat 32 k.val) 23#32) ≤ (t : EReal))) = 1#1) = Finset.Iic (⟨(max 0 (L + 127)).toNat, by omega⟩ : Fin 256) := by
    ext k
    rw [Finset.mem_filter, Finset.mem_Iic, Fin.le_def]
    have e : ∀ b : Bool, BitVec.ofBool b = 1#1 ↔ b = true := by decide
    rw [e, decide_eq_true_iff, reach_iff t ht L hL hU]
    simp
  rw [hc, Fin.card_Iic]
  show BitVec.ofNat 32 ((max 0 (L + 127)).toNat + 1) - 1#32 - 126#32 = _
  obtain ⟨K, hK⟩ : ∃ K : ℕ, max 0 (L + 127) = (K : ℤ) := ⟨(max 0 (L + 127)).toNat, by omega⟩
  rw [hK, show max (L + 1) (-126) = (K : ℤ) - 126 by omega, Int.toNat_natCast]
  have hK2 : K < 253 := by omega
  clear hc hK
  apply BitVec.eq_of_toInt_eq
  have : ∀ K : Fin 253, (BitVec.ofNat 32 (K.val + 1) - 1#32 - 126#32).toInt = (BitVec.ofInt 32 ((K.val : ℤ) - 126)).toInt := by decide +kernel
  exact this ⟨K, hK2⟩

/-- The reference's exponent at a positive real. -/
theorem expR_coe (b : ℝ) (hb : 0 < b) (t : ℝ) (ht : t = b * (9586981 * 2 ^ (-32 : ℤ))) (L : ℤ) (hL : L = ⌊Real.log t * (1 / Real.log 2)⌋) :
    expR (b : EReal) = (((max (L + 1) (-126) : ℤ) : ℝ) : EReal) := by
  have hb0 : (b : EReal) ≠ 0 := by exact_mod_cast hb.ne'
  have ht0 : 0 < t := by rw [ht]; positivity
  have h2 : Real.log 2 ≠ 0 := (Real.log_pos (by norm_num)).ne'
  unfold expR
  rw [if_neg hb0, lit_448th, lit_2, lit_n126, ← EReal.coe_mul, ← ht, Ideal.log_coe, Ideal.log_coe, if_neg (by linarith), if_neg (by norm_num),
    Ideal.div_coe h2, ← EReal.coe_mul, Ideal.liftRound_coe, ← hL]
  push_cast
  rfl

/-- Kernel and reference give a row of bounded largest value the same exponent. -/
theorem exp_agree (b : EReal) (h0 : 0 ≤ b) (hb : b ≤ ((3 * 2 ^ (133 : ℤ) : ℝ) : EReal)) :
    ∃ e : ℤ, -126 ≤ e ∧ e ≤ 126 ∧ expR b = ((e : ℝ) : EReal) ∧
      Scalar.select (BitVec.ofBool (decide (b = 0))) 0#32 (countExp (b * Ideal.ofBits FTy.f32 0x3B124925#32)) = BitVec.ofInt 32 e := by
  induction b with
  | bot => exact absurd h0 (by simp)
  | top => exact absurd hb (not_le.mpr (EReal.coe_lt_top _))
  | coe r =>
    have hr0 : 0 ≤ r := by exact_mod_cast h0
    have hr : r ≤ 3 * 2 ^ (133 : ℤ) := by exact_mod_cast hb
    rcases hr0.eq_or_lt with h | h
    · subst h
      refine ⟨0, by norm_num, by norm_num, ?_, ?_⟩
      · unfold expR; simp
      · rw [show decide (((0 : ℝ) : EReal) = 0) = true by simp]; rfl
    · have ht0 : 0 < r * (9586981 * 2 ^ (-32 : ℤ)) := by positivity
      have hlt : ¬ (126 : ℤ) ≤ ⌊Real.log (r * (9586981 * 2 ^ (-32 : ℤ))) * (1 / Real.log 2)⌋ := by
        rw [← zpow_le_iff _ ht0, not_le]
        calc r * (9586981 * 2 ^ (-32 : ℤ)) ≤ 3 * 2 ^ (133 : ℤ) * (9586981 * 2 ^ (-32 : ℤ)) := by gcongr
          _ < 2 ^ (126 : ℤ) := by norm_num
      refine ⟨max (⌊Real.log (r * (9586981 * 2 ^ (-32 : ℤ))) * (1 / Real.log 2)⌋ + 1) (-126), by omega, by omega, expR_coe r h _ rfl _ rfl, ?_⟩
      have hne : ¬ ((r : EReal) = 0) := by exact_mod_cast h.ne'
      rw [decide_eq_false hne, lit_448th, ← EReal.coe_mul, countExp_coe _ ht0 _ rfl (by omega)]
      rfl

/-- The scale the kernel's bits spell. -/
theorem scale_bits (e : ℤ) (h1 : -126 ≤ e) (h2 : e ≤ 126) :
    Ideal.ofBits .f32 ((BitVec.ofInt 32 e + 127#32) <<< 23) = Ideal.exp2 ((e : ℝ) : EReal) := by
  have hz : ∀ n : Fin 253, BitVec.ofInt 32 ((n.val : ℤ) - 126) + 127#32 = BitVec.ofNat 32 (n.val + 1) := by decide +kernel
  have := hz ⟨(e + 126).toNat, by omega⟩
  simp only at this
  rw [show (((e + 126).toNat : ℕ) : ℤ) - 126 = e by omega] at this
  rw [this, lit_pow _ (by omega) (by omega), Ideal.exp2_coe]
  congr 1
  rw [show (((e + 126).toNat + 1 : ℕ) : ℤ) - 127 = e by omega]
  exact (Real.rpow_intCast 2 e).symm

/-- The reciprocal scale the kernel's bits spell. -/
theorem rscale_bits (e : ℤ) (h1 : -126 ≤ e) (h2 : e ≤ 126) :
    Ideal.ofBits .f32 ((127#32 - BitVec.ofInt 32 e) <<< 23) = Ideal.exp2 (0 - ((e : ℝ) : EReal)) := by
  have hz : ∀ n : Fin 253, 127#32 - BitVec.ofInt 32 ((n.val : ℤ) - 126) = BitVec.ofNat 32 (253 - n.val) := by decide +kernel
  have := hz ⟨(e + 126).toNat, by omega⟩
  simp only at this
  rw [show (((e + 126).toNat : ℕ) : ℤ) - 126 = e by omega] at this
  rw [this, lit_pow _ (by omega) (by omega), zero_sub, ← EReal.coe_neg, Ideal.exp2_coe]
  congr 1
  rw [show ((253 - (e + 126).toNat : ℕ) : ℤ) - 127 = -e by omega]
  rw [← Int.cast_neg]
  exact (Real.rpow_intCast 2 (-e)).symm

end Cert.Eq
-- ==== Proof.EqOutR.lean ====
/- The reference's clipped codes, entry by entry. -/
module

public import proofs.«01_k».proof.Proof.Gen.ReferenceIdeal.Skeleton
public import Idealize.ShloMosaic.Lib.Pointwise

@[expose] public section

set_option maxRecDepth 16384

noncomputable section

namespace Cert.Eq

open Idealize.ShloMosaic

open Cert.ReferenceIdeal.Gen Cert.ReferenceIdeal

theorem r_clip (v : FVec Ideal S256x5120 .f32) (p : Fin 256) (c : Fin 5120) :
    k0_pay1 (F := Ideal) v (Scalar.ofBits .f32 0xC3E00000#32) (ix2 p c) =
      min (Ideal.ofBits FTy.f32 0x43E00000#32) (max (Ideal.ofBits FTy.f32 0xC3E00000#32) (v (ix2 p c))) := by
  unfold k0_pay1
  pointwise
  try rfl

end Cert.Eq
-- ==== Proof.EqPreR.lean ====
/- The reference's scaled rows, entry by entry. -/
module

public import proofs.«01_k».proof.Proof.Gen.ReferenceIdeal.Skeleton
public import Idealize.ShloMosaic.Lib.Pointwise

@[expose] public section

set_option maxRecDepth 16384

noncomputable section

namespace Cert.Eq

open Idealize.ShloMosaic

open Cert.ReferenceIdeal.Gen Cert.ReferenceIdeal
variable (r : Vec Ideal S256x5120 .bf16) (g : Vec Ideal S1x5120 .bf16)

theorem r_ys (p : Fin 256) : k0_pay8 (F := Ideal) r g (ix2 p 0) = Ideal.exp2 (k0_pay7 (F := Ideal) r g (ix2 p 0)) := by
  unfold k0_pay8
  generalize k0_pay7 (F := Ideal) r g = e
  rfl

theorem r_pre (p : Fin 256) (c : Fin 5120) : k0_pay9 (F := Ideal) r g (ix2 p c) =
    k0_pay6 (F := Ideal) r g (ix2 p c) * Ideal.exp2 (0 - k0_pay7 (F := Ideal) r g (ix2 p 0)) := by
  unfold k0_pay9
  generalize k0_pay7 (F := Ideal) r g = e
  generalize k0_pay6 (F := Ideal) r g = y
  pointwise
  try rfl

end Cert.Eq
-- ==== Proof.EqY.lean ====
/- The normalised rows' scales and codes: the kernel's are the reference's, for weights of the norm within the finite numbers of their format. -/
module

public import proofs.«01_k».proof.Proof.EqMax
public import proofs.«01_k».proof.Proof.EqExp
public import proofs.«01_k».proof.Proof.EqOutR
public import proofs.«01_k».proof.Proof.EqPreR
public import Idealize.ShloMosaic.Lib.Pointwise

@[expose] public section

set_option maxRecDepth 16384

noncomputable section

namespace Cert.Eq

open Idealize.ShloMosaic

open Cert.KernelIdeal Cert.KernelIdeal.Own

variable (X : Vec Ideal S256x8192 .bf16) (W : Vec Ideal S8192x2560 .i8) (S : Vec Ideal S1x5120 .f32) (R : Vec Ideal S256x5120 .bf16)
variable (G : Vec Ideal S1x5120 .bf16)

/-- The reference's normalised row over the kernel's residual sum. -/
theorem norm_eq (p : Fin 256) (c : Fin 5120) :
    Cert.ReferenceIdeal.Gen.k0_pay6 (F := Ideal) (roA (F := Ideal) X W S R) G (ix2 p c) = yV X W S R G p c := by
  rw [r_norm]
  simp only [roA_at]
  rfl

theorem exp_eq (p : Fin 256) :
    Cert.ReferenceIdeal.Gen.k0_pay7 (F := Ideal) (roA (F := Ideal) X W S R) G (ix2 p 0) = expR (rowMax (yV X W S R G p)) := by
  rw [r_exp]
  exact congrArg (fun f => expR (rowMax f)) (funext fun c => norm_eq X W S R G p c)

/-- The exponent a row gets, and the two spellings of it. -/
theorem row_exp (hG : ∀ j, (FloatOps.absf (F := Ideal) (φ := .f32) (G (ix2 0 j)) : EReal) ≤ Ideal.ofBits FTy.f32 0x7F7F0000#32) (p : Fin 256) :
    ∃ e : ℤ, -126 ≤ e ∧ e ≤ 126 ∧ expR (rowMax (yV X W S R G p)) = ((e : ℝ) : EReal) ∧
      Scalar.select (isZ (ssT (F := Ideal) X W S R 9) (rallT (F := Ideal) X W S R) G (ix2 p 0)) (Cert.KernelIdeal.Gen.k0_pay56 (ix2 p 0))
        (expo (ssT (F := Ideal) X W S R 9) (rallT (F := Ideal) X W S R) G (ix2 p 0)) = BitVec.ofInt 32 e := by
  have h0 : 0 ≤ rowMax (yV X W S R G p) := (absf_nonneg _).trans ((rowMax_le_iff _ _).mp le_rfl 0)
  have hb := rowMax_bound (fun j => roV X W S R p j) (fun j => G (ix2 0 j)) hG
  obtain ⟨e, h1, h2, h3, h4⟩ := exp_agree (rowMax (yV X W S R G p)) h0 hb
  refine ⟨e, h1, h2, h3, ?_⟩
  have ha := amax_at X W S R G p
  unfold amax at ha
  unfold isZ expo
  rw [pay54_at, pay55_at, ha]
  exact h4

/-- Result 5, the scales of the normalised rows. -/
theorem ys_eq (hG : ∀ j, (FloatOps.absf (F := Ideal) (φ := .f32) (G (ix2 0 j)) : EReal) ≤ Ideal.ofBits FTy.f32 0x7F7F0000#32) :
    ysA (F := Ideal) X W S R G = Cert.ReferenceIdeal.Gen.k0_pay8 (F := Ideal) (roA (F := Ideal) X W S R) G := by
  funext y
  idx_vars y
  rw [show y1 = 0 from Fin.ext (by omega), r_ys, exp_eq]
  obtain ⟨e, h1, h2, h3, h4⟩ := row_exp X W S R G hG y0
  rw [h3]
  unfold ysA ysOf
  rw [pay58_at, h4, scale_bits e h1 h2]

/-- Result 4, the codes of the normalised rows. -/
theorem yc_eq (hG : ∀ j, (FloatOps.absf (F := Ideal) (φ := .f32) (G (ix2 0 j)) : EReal) ≤ Ideal.ofBits FTy.f32 0x7F7F0000#32) :
    ycA (F := Ideal) X W S R G = Cert.ReferenceIdeal.Gen.k0_pay1 (F := Ideal)
      (Cert.ReferenceIdeal.Gen.k0_pay9 (F := Ideal) (roA (F := Ideal) X W S R) G) (Scalar.ofBits .f32 0xC3E00000#32) := by
  funext y
  idx_vars y
  rw [r_clip, r_pre, norm_eq, exp_eq]
  obtain ⟨e, h1, h2, h3, h4⟩ := row_exp X W S R G hG y0
  rw [h3, ← rscale_bits e h1 h2, ← h4]
  show ycTile (F := Ideal) _ _ _ (y1.val / 512) (ix2 y0 (⟨y1.val % 512, _⟩ : Fin 512)) = _
  unfold ycTile
  rw [yc_at, pay59_at, rTile_at X W S R y0 _ (by omega), gTile_at G _ (by omega), invOf_at]
  have e : (⟨512 * (y1.val / 512) + y1.val % 512, by omega⟩ : Fin 5120) = y1 := Fin.ext (by show 512 * (y1.val / 512) + y1.val % 512 = y1.val; omega)
  simp only [e]
  rfl

end Cert.Eq
-- ==== Proof.EqAll.lean ====
/- The algebraic claim: from agreeing arguments the two programs end with the same five results over the extended reals. -/
module

public import proofs.«01_k».proof.Proof.KIValue
public import proofs.«01_k».proof.Proof.RIValue
public import proofs.«01_k».proof.Proof.HostK
public import proofs.«01_k».proof.Proof.HostR
public import proofs.«01_k».proof.Proof.EqPre
public import proofs.«01_k».proof.Proof.EqY
public import proofs.«01_k».proof.Defs
public import proofs.«01_k».proof.Proof.Gen.Pre_gamma_finite
public import Idealize.ShloMosaic.Lib.Pointwise

@[expose] public section

set_option maxRecDepth 16384

noncomputable section

namespace Cert.Eq

open Idealize.ShloMosaic Idealize.SL.Sem

open Cert.KernelIdeal.Own

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two programs' arguments agree. -/
def Agree : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

/-- The activations the kernel reads. -/
def aX (c : Dev Cert.KernelIdeal.nD) : Vec Ideal Cert.KernelIdeal.S256x8192 .bf16 := Cert.KernelIdeal.Gen.V m c Cert.KernelIdeal.main_v0
/-- The packed weights the kernel reads. -/
def aW (c : Dev Cert.KernelIdeal.nD) : Vec Ideal Cert.KernelIdeal.S8192x2560 .i8 := Cert.KernelIdeal.Gen.V m c Cert.KernelIdeal.main_arg1
/-- The weights' scales. -/
def aS (c : Dev Cert.KernelIdeal.nD) : Vec Ideal Cert.KernelIdeal.S1x5120 .f32 := Cert.KernelIdeal.Gen.V m c Cert.KernelIdeal.main_v1
/-- The residual. -/
def aR (c : Dev Cert.KernelIdeal.nD) : Vec Ideal Cert.KernelIdeal.S256x5120 .bf16 := Cert.KernelIdeal.Gen.V m c Cert.KernelIdeal.main_v2
/-- The norm's weights. -/
def aG (c : Dev Cert.KernelIdeal.nD) : Vec Ideal Cert.KernelIdeal.S1x5120 .bf16 := Cert.KernelIdeal.Gen.V m c Cert.KernelIdeal.main_v3

variable {m m'} (h : Agree m m')
include h

theorem same_X (c : Dev Cert.KernelIdeal.nD) : (Cert.ReferenceIdeal.Gen.V m' c Cert.ReferenceIdeal.main_v0 : Vec Ideal Cert.KernelIdeal.S256x8192 .bf16) = aX m c :=
  (r_v0 m' c).trans ((congrArg (fun a => shapeCast _ a Cert.KernelIdeal.Gen.shapeCasts_S2x128x8192_S256x8192) (h c).1).trans (k_v0 m c).symm)
theorem same_S (c : Dev Cert.KernelIdeal.nD) : (Cert.ReferenceIdeal.Gen.V m' c Cert.ReferenceIdeal.main_v16 : Vec Ideal Cert.KernelIdeal.S1x5120 .f32) = aS m c :=
  (r_v16 m' c).trans ((congrArg (fun a => shapeCast _ a Cert.KernelIdeal.Gen.shapeCasts_S5120_S1x5120) (h c).2.2.1).trans (k_v1 m c).symm)
theorem same_R (c : Dev Cert.KernelIdeal.nD) : (Cert.ReferenceIdeal.Gen.V m' c Cert.ReferenceIdeal.main_v17 : Vec Ideal Cert.KernelIdeal.S256x5120 .bf16) = aR m c :=
  (r_v17 m' c).trans ((congrArg (fun a => shapeCast _ a Cert.KernelIdeal.Gen.shapeCasts_S2x128x5120_S256x5120) (h c).2.2.2.1).trans (k_v2 m c).symm)
theorem same_G (c : Dev Cert.KernelIdeal.nD) : (Cert.ReferenceIdeal.Gen.V m' c Cert.ReferenceIdeal.main_v18 : Vec Ideal Cert.KernelIdeal.S1x5120 .bf16) = aG m c :=
  (r_v18 m' c).trans ((congrArg (fun a => shapeCast _ a Cert.KernelIdeal.Gen.shapeCasts_S5120_S1x5120) (h c).2.2.2.2).trans (k_v3 m c).symm)

theorem same_W (c : Dev Cert.KernelIdeal.nD) (k : Fin 8192) (j : Fin 5120) :
    (Cert.ReferenceIdeal.Gen.V m' c Cert.ReferenceIdeal.main_v15 : Vec Ideal Cert.ReferenceIdeal.S8192x5120 .bf16) (ix2 k j) =
      nibR (aW m c (ix2 k ⟨j.val / 2, by omega⟩)) (decide (j.val % 2 = 1)) := by
  rw [r_weight]
  have e : (m' (c, Proc.tc.devRef Cert.ReferenceIdeal.main_arg1) : Vec Ideal Cert.KernelIdeal.S8192x2560 .i8) = aW m c :=
    (h c).2.1.trans (Cert.KernelIdeal.Gen.V_main_arg1 m c).symm
  exact congrArg (fun f : Vec Ideal Cert.KernelIdeal.S8192x2560 .i8 => nibR (f (ix2 k ⟨j.val / 2, by omega⟩)) (decide (j.val % 2 = 1))) e

/-- Result 1. -/
theorem result1 (c : Dev Cert.KernelIdeal.nD) : Cert.ReferenceIdeal.Gen.k0_pay5 (F := Ideal) (Cert.ReferenceIdeal.Gen.V m' c Cert.ReferenceIdeal.main_v0)
    (Cert.ReferenceIdeal.Gen.V m' c Cert.ReferenceIdeal.main_v15) (Cert.ReferenceIdeal.Gen.V m' c Cert.ReferenceIdeal.main_v16)
    (Cert.ReferenceIdeal.Gen.V m' c Cert.ReferenceIdeal.main_v17) = roA (F := Ideal) (aX m c) (aW m c) (aS m c) (aR m c) := by
  rw [ro_eq (aX m c) (aW m c) (aS m c) (aR m c) (Cert.ReferenceIdeal.Gen.V m' c Cert.ReferenceIdeal.main_v15) (same_W h c)]
  exact congr (congr (congrArg (fun a => Cert.ReferenceIdeal.Gen.k0_pay5 (F := Ideal) a (Cert.ReferenceIdeal.Gen.V m' c Cert.ReferenceIdeal.main_v15))
    (same_X h c)) (same_S h c)) (same_R h c)

/-- The five results. -/
theorem results (hpre : Pre_KernelIdeal_gamma_finite m) (c : Dev Cert.KernelIdeal.nD) :
    Cert.ReferenceIdeal.Gen.k0_pay4 (F := Ideal) (Cert.ReferenceIdeal.Gen.V m' c Cert.ReferenceIdeal.main_v0) = xcOf (F := Ideal) (aX m c)
    ∧ Cert.ReferenceIdeal.Gen.k0_pay3 (F := Ideal) (Cert.ReferenceIdeal.Gen.V m' c Cert.ReferenceIdeal.main_v0) = xsOf (F := Ideal) (aX m c)
    ∧ Cert.ReferenceIdeal.Gen.k0_pay1 (F := Ideal) (Cert.ReferenceIdeal.Gen.k0_pay9 (F := Ideal)
        (Cert.ReferenceIdeal.Gen.k0_pay5 (F := Ideal) (Cert.ReferenceIdeal.Gen.V m' c Cert.ReferenceIdeal.main_v0)
          (Cert.ReferenceIdeal.Gen.V m' c Cert.ReferenceIdeal.main_v15) (Cert.ReferenceIdeal.Gen.V m' c Cert.ReferenceIdeal.main_v16)
          (Cert.ReferenceIdeal.Gen.V m' c Cert.ReferenceIdeal.main_v17)) (Cert.ReferenceIdeal.Gen.V m' c Cert.ReferenceIdeal.main_v18))
          (Scalar.ofBits .f32 0xC3E00000#32) = ycA (F := Ideal) (aX m c) (aW m c) (aS m c) (aR m c) (aG m c)
    ∧ Cert.ReferenceIdeal.Gen.k0_pay8 (F := Ideal)
        (Cert.ReferenceIdeal.Gen.k0_pay5 (F := Ideal) (Cert.ReferenceIdeal.Gen.V m' c Cert.ReferenceIdeal.main_v0)
          (Cert.ReferenceIdeal.Gen.V m' c Cert.ReferenceIdeal.main_v15) (Cert.ReferenceIdeal.Gen.V m' c Cert.ReferenceIdeal.main_v16)
          (Cert.ReferenceIdeal.Gen.V m' c Cert.ReferenceIdeal.main_v17)) (Cert.ReferenceIdeal.Gen.V m' c Cert.ReferenceIdeal.main_v18)
        = ysA (F := Ideal) (aX m c) (aW m c) (aS m c) (aR m c) (aG m c) := by
  refine ⟨?_, ?_, ?_, ?_⟩
  · rw [xc_eq]; exact congrArg _ (same_X h c)
  · rw [xs_eq]; exact congrArg _ (same_X h c)
  · rw [yc_eq _ _ _ _ (aG m c) (gamma_le m hpre c), result1 h c]
    exact congrArg (fun g => Cert.ReferenceIdeal.Gen.k0_pay1 (F := Ideal) (Cert.ReferenceIdeal.Gen.k0_pay9 (F := Ideal) _ g) _) (same_G h c)
  · rw [ys_eq _ _ _ _ (aG m c) (gamma_le m hpre c), result1 h c]
    exact congrArg (fun g => Cert.ReferenceIdeal.Gen.k0_pay8 (F := Ideal) _ g) (same_G h c)

omit h

/-- The algebraic claim. -/
theorem algebraic : Cert.algebraic_KernelIdeal_ReferenceIdeal_pre_gamma_finite := by
  intro m g m' g' hpre hagree
  refine ⟨fun c => roA (F := Ideal) (aX m c) (aW m c) (aS m c) (aR m c), fun c => xcOf (F := Ideal) (aX m c), fun c => xsOf (F := Ideal) (aX m c),
    fun c => ycA (F := Ideal) (aX m c) (aW m c) (aS m c) (aR m c) (aG m c), fun c => ysA (F := Ideal) (aX m c) (aW m c) (aS m c) (aR m c) (aG m c),
    Cert.KernelIdeal.Own.run m g, ?_⟩
  refine (θ_run Cert.ReferenceIdeal.defs _ _).mono (fun r hr c => ?_) (Cert.ReferenceIdeal.Own.run m' g')
  obtain ⟨h0, h1, h2, h3, h4, hargs⟩ := hr c
  have hres := results hagree hpre c
  exact ⟨h0.trans (result1 hagree c), h1.trans hres.1, h2.trans hres.2.1, h3.trans hres.2.2.1, h4.trans hres.2.2.2, hargs⟩

end Cert.Eq
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_gamma_finite
public import proofs.«01_k».proof.Proof.KFrame
public import proofs.«01_k».proof.Proof.KIFrame
public import proofs.«01_k».proof.Proof.EqAll
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_gamma_finite.Gen.facts,
    fun m ρ _ => Cert.Kernel.Own.frame m ρ,
    fun m ρ _ => Cert.KernelIdeal.Own.frame m ρ,
    fun m ρ _ => Cert.KernelIdeal.Own.frame m ρ,
    fun m ρ _ => Cert.ReferenceIdeal.Gen.frame m ρ,
    fun m ρ _ => Cert.ReferenceIdeal.Gen.frame m ρ,
    trivial,
    Cert.Eq.algebraic⟩

end Cert.Proof

end
